-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v159) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4x512x256 : Shape := ⟨3, ![4, 512, 256]⟩
abbrev S4x512x384 : Shape := ⟨3, ![4, 512, 384]⟩
abbrev S4x512x128 : Shape := ⟨3, ![4, 512, 128]⟩
abbrev S2x512x256 : Shape := ⟨3, ![2, 512, 256]⟩
abbrev S2x512x384 : Shape := ⟨3, ![2, 512, 384]⟩
abbrev S2x512x128 : Shape := ⟨3, ![2, 512, 128]⟩
abbrev S1x512x256 : Shape := ⟨3, ![1, 512, 256]⟩
abbrev S1x512x384 : Shape := ⟨3, ![1, 512, 384]⟩
abbrev S1x512x128 : Shape := ⟨3, ![1, 512, 128]⟩
abbrev S7x4 : Shape := ⟨2, ![7, 4]⟩
abbrev S_ : Shape := ⟨0, ![]⟩
abbrev S512x512 : Shape := ⟨2, ![512, 512]⟩
abbrev S512x256 : Shape := ⟨2, ![512, 256]⟩
abbrev S1x1 : Shape := ⟨2, ![1, 1]⟩
abbrev S512x384 : Shape := ⟨2, ![512, 384]⟩
abbrev S512x128 : Shape := ⟨2, ![512, 128]⟩

abbrev nBuf : Space → Nat
  | .hbm => 3
  | .vmem => 52
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S512x2048, .f32⟩
  | .local _ .vmem, ⟨3, _⟩ => ⟨S4x512x256, .i8⟩
  | .local _ .vmem, ⟨4, _⟩ => ⟨S4x512x256, .i8⟩
  | .local _ .vmem, ⟨5, _⟩ => ⟨S4x512x384, .i8⟩
  | .local _ .vmem, ⟨6, _⟩ => ⟨S4x512x384, .i8⟩
  | .local _ .vmem, ⟨7, _⟩ => ⟨S4x512x384, .i8⟩
  | .local _ .vmem, ⟨8, _⟩ => ⟨S4x512x256, .i8⟩
  | .local _ .vmem, ⟨9, _⟩ => ⟨S4x512x128, .i8⟩
  | .local _ .vmem, ⟨10, _⟩ => ⟨S4x512x256, .i8⟩
  | .local _ .vmem, ⟨11, _⟩ => ⟨S4x512x256, .i8⟩
  | .local _ .vmem, ⟨12, _⟩ => ⟨S4x512x384, .i8⟩
  | .local _ .vmem, ⟨13, _⟩ => ⟨S4x512x384, .i8⟩
  | .local _ .vmem, ⟨14, _⟩ => ⟨S4x512x384, .i8⟩
  | .local _ .vmem, ⟨15, _⟩ => ⟨S4x512x256, .i8⟩
  | .local _ .vmem, ⟨16, _⟩ => ⟨S4x512x128, .i8⟩
  | .local _ .vmem, ⟨17, _⟩ => ⟨S2x512x256, .i8⟩
  | .local _ .vmem, ⟨18, _⟩ => ⟨S2x512x256, .i8⟩
  | .local _ .vmem, ⟨19, _⟩ => ⟨S2x512x384, .i8⟩
  | .local _ .vmem, ⟨20, _⟩ => ⟨S2x512x384, .i8⟩
  | .local _ .vmem, ⟨21, _⟩ => ⟨S2x512x384, .i8⟩
  | .local _ .vmem, ⟨22, _⟩ => ⟨S2x512x256, .i8⟩
  | .local _ .vmem, ⟨23, _⟩ => ⟨S2x512x128, .i8⟩
  | .local _ .vmem, ⟨24, _⟩ => ⟨S2x512x256, .i8⟩
  | .local _ .vmem, ⟨25, _⟩ => ⟨S2x512x256, .i8⟩
  | .local _ .vmem, ⟨26, _⟩ => ⟨S2x512x384, .i8⟩
  | .local _ .vmem, ⟨27, _⟩ => ⟨S2x512x384, .i8⟩
  | .local _ .vmem, ⟨28, _⟩ => ⟨S2x512x384, .i8⟩
  | .local _ .vmem, ⟨29, _⟩ => ⟨S2x512x256, .i8⟩
  | .local _ .vmem, ⟨30, _⟩ => ⟨S2x512x128, .i8⟩
  | .local _ .vmem, ⟨31, _⟩ => ⟨S2x512x256, .bf16⟩
  | .local _ .vmem, ⟨32, _⟩ => ⟨S2x512x256, .bf16⟩
  | .local _ .vmem, ⟨33, _⟩ => ⟨S2x512x384, .bf16⟩
  | .local _ .vmem, ⟨34, _⟩ => ⟨S2x512x384, .bf16⟩
  | .local _ .vmem, ⟨35, _⟩ => ⟨S2x512x384, .bf16⟩
  | .local _ .vmem, ⟨36, _⟩ => ⟨S2x512x256, .bf16⟩
  | .local _ .vmem, ⟨37, _⟩ => ⟨S2x512x128, .bf16⟩
  | .local _ .vmem, ⟨38, _⟩ => ⟨S1x512x256, .bf16⟩
  | .local _ .vmem, ⟨39, _⟩ => ⟨S1x512x256, .bf16⟩
  | .local _ .vmem, ⟨40, _⟩ => ⟨S1x512x384, .bf16⟩
  | .local _ .vmem, ⟨41, _⟩ => ⟨S1x512x384, .bf16⟩
  | .local _ .vmem, ⟨42, _⟩ => ⟨S1x512x384, .bf16⟩
  | .local _ .vmem, ⟨43, _⟩ => ⟨S1x512x256, .bf16⟩
  | .local _ .vmem, ⟨44, _⟩ => ⟨S1x512x128, .bf16⟩
  | .local _ .vmem, ⟨45, _⟩ => ⟨S4x512x256, .f32⟩
  | .local _ .vmem, ⟨46, _⟩ => ⟨S4x512x256, .f32⟩
  | .local _ .vmem, ⟨47, _⟩ => ⟨S4x512x384, .f32⟩
  | .local _ .vmem, ⟨48, _⟩ => ⟨S4x512x384, .f32⟩
  | .local _ .vmem, ⟨49, _⟩ => ⟨S4x512x384, .f32⟩
  | .local _ .vmem, ⟨50, _⟩ => ⟨S4x512x256, .f32⟩
  | .local _ .vmem, ⟨51, _⟩ => ⟨S4x512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_scratch24 : Ref sig .tc := ⟨.vmem, 27, rfl⟩
abbrev cc0_scratch25 : Ref sig .tc := ⟨.vmem, 28, rfl⟩
abbrev cc0_scratch26 : Ref sig .tc := ⟨.vmem, 29, rfl⟩
abbrev cc0_scratch27 : Ref sig .tc := ⟨.vmem, 30, rfl⟩
abbrev cc0_scratch28 : Ref sig .tc := ⟨.vmem, 31, rfl⟩
abbrev cc0_scratch29 : Ref sig .tc := ⟨.vmem, 32, rfl⟩
abbrev cc0_scratch30 : Ref sig .tc := ⟨.vmem, 33, rfl⟩
abbrev cc0_scratch31 : Ref sig .tc := ⟨.vmem, 34, rfl⟩
abbrev cc0_scratch32 : Ref sig .tc := ⟨.vmem, 35, rfl⟩
abbrev cc0_scratch33 : Ref sig .tc := ⟨.vmem, 36, rfl⟩
abbrev cc0_scratch34 : Ref sig .tc := ⟨.vmem, 37, rfl⟩
abbrev cc0_scratch35 : Ref sig .tc := ⟨.vmem, 38, rfl⟩
abbrev cc0_scratch36 : Ref sig .tc := ⟨.vmem, 39, rfl⟩
abbrev cc0_scratch37 : Ref sig .tc := ⟨.vmem, 40, rfl⟩
abbrev cc0_scratch38 : Ref sig .tc := ⟨.vmem, 41, rfl⟩
abbrev cc0_scratch39 : Ref sig .tc := ⟨.vmem, 42, rfl⟩
abbrev cc0_scratch40 : Ref sig .tc := ⟨.vmem, 43, rfl⟩
abbrev cc0_scratch41 : Ref sig .tc := ⟨.vmem, 44, rfl⟩
abbrev cc0_scratch42 : Ref sig .tc := ⟨.vmem, 45, rfl⟩
abbrev cc0_scratch43 : Ref sig .tc := ⟨.vmem, 46, rfl⟩
abbrev cc0_scratch44 : Ref sig .tc := ⟨.vmem, 47, rfl⟩
abbrev cc0_scratch45 : Ref sig .tc := ⟨.vmem, 48, rfl⟩
abbrev cc0_scratch46 : Ref sig .tc := ⟨.vmem, 49, rfl⟩
abbrev cc0_scratch47 : Ref sig .tc := ⟨.vmem, 50, rfl⟩
abbrev cc0_scratch48 : Ref sig .tc := ⟨.vmem, 51, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.xori v2 c2_i32
  let c512_i32 : BitVec 32 := 512#32
  let v14 : BitVec 32 := Scalar.muli v13 c512_i32
  let v15 : Index := Scalar.indexCast v14
  let c0 : Index := 0#32
  ![v15.toNat, 0]
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v55 : BitVec 32 := Scalar.xori v2 c1_i32_25
  let c1_i32_30 : BitVec 32 := 1#32
  let v56 : BitVec 32 := Scalar.muli v55 c1_i32_30
  let v57 : BitVec 32 := Scalar.addi c0_i32_31 v56
  v57.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v106 : BitVec 32 := Scalar.xori v2 c3_i32_60
  let c1_i32_65 : BitVec 32 := 1#32
  let v107 : BitVec 32 := Scalar.muli v106 c1_i32_65
  let v108 : BitVec 32 := Scalar.addi c0_i32_66 v107
  v108.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_95 : BitVec 32 := 4#32
  let v157 : BitVec 32 := Scalar.xori v2 c4_i32_95
  let c1_i32_100 : BitVec 32 := 1#32
  let v158 : BitVec 32 := Scalar.muli v157 c1_i32_100
  let v159 : BitVec 32 := Scalar.addi c0_i32_101 v158
  v159.toNat
def k0_dev7 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v208 : BitVec 32 := Scalar.xori v2 c1_i32_131
  let c1_i32_136 : BitVec 32 := 1#32
  let v209 : BitVec 32 := Scalar.muli v208 c1_i32_136
  let v210 : BitVec 32 := Scalar.addi c0_i32_137 v209
  v210.toNat
def k0_dev8 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_167 : BitVec 32 := 3#32
  let v259 : BitVec 32 := Scalar.xori v2 c3_i32_167
  let c1_i32_172 : BitVec 32 := 1#32
  let v260 : BitVec 32 := Scalar.muli v259 c1_i32_172
  let v261 : BitVec 32 := Scalar.addi c0_i32_173 v260
  v261.toNat
def k0_dev9 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_203 : BitVec 32 := 4#32
  let v310 : BitVec 32 := Scalar.xori v2 c4_i32_203
  let c1_i32_208 : BitVec 32 := 1#32
  let v311 : BitVec 32 := Scalar.muli v310 c1_i32_208
  let v312 : BitVec 32 := Scalar.addi c0_i32_209 v311
  v312.toNat
def k0_dev10 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v361 : BitVec 32 := Scalar.xori v2 c1_i32_239
  let c1_i32_244 : BitVec 32 := 1#32
  let v362 : BitVec 32 := Scalar.muli v361 c1_i32_244
  let v363 : BitVec 32 := Scalar.addi c0_i32_245 v362
  v363.toNat
def k0_dev11 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_275 : BitVec 32 := 1#32
  let v412 : BitVec 32 := Scalar.xori v2 c1_i32_275
  let c1_i32_280 : BitVec 32 := 1#32
  let v413 : BitVec 32 := Scalar.muli v412 c1_i32_280
  let v414 : BitVec 32 := Scalar.addi c0_i32_281 v413
  v414.toNat
def k0_dev12 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_312 : BitVec 32 := 3#32
  let v463 : BitVec 32 := Scalar.xori v2 c3_i32_312
  let c1_i32_317 : BitVec 32 := 1#32
  let v464 : BitVec 32 := Scalar.muli v463 c1_i32_317
  let v465 : BitVec 32 := Scalar.addi c0_i32_318 v464
  v465.toNat
def k0_dev13 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_349 : BitVec 32 := 4#32
  let v514 : BitVec 32 := Scalar.xori v2 c4_i32_349
  let c1_i32_354 : BitVec 32 := 1#32
  let v515 : BitVec 32 := Scalar.muli v514 c1_i32_354
  let v516 : BitVec 32 := Scalar.addi c0_i32_355 v515
  v516.toNat
def k0_dev14 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_386 : BitVec 32 := 1#32
  let v565 : BitVec 32 := Scalar.xori v2 c1_i32_386
  let c1_i32_391 : BitVec 32 := 1#32
  let v566 : BitVec 32 := Scalar.muli v565 c1_i32_391
  let v567 : BitVec 32 := Scalar.addi c0_i32_392 v566
  v567.toNat
def k0_dev15 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_423 : BitVec 32 := 3#32
  let v616 : BitVec 32 := Scalar.xori v2 c3_i32_423
  let c1_i32_428 : BitVec 32 := 1#32
  let v617 : BitVec 32 := Scalar.muli v616 c1_i32_428
  let v618 : BitVec 32 := Scalar.addi c0_i32_429 v617
  v618.toNat
def k0_dev16 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_460 : BitVec 32 := 4#32
  let v667 : BitVec 32 := Scalar.xori v2 c4_i32_460
  let c1_i32_465 : BitVec 32 := 1#32
  let v668 : BitVec 32 := Scalar.muli v667 c1_i32_465
  let v669 : BitVec 32 := Scalar.addi c0_i32_466 v668
  v669.toNat
def k0_dev17 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_497 : BitVec 32 := 1#32
  let v718 : BitVec 32 := Scalar.xori v2 c1_i32_497
  let c1_i32_502 : BitVec 32 := 1#32
  let v719 : BitVec 32 := Scalar.muli v718 c1_i32_502
  let v720 : BitVec 32 := Scalar.addi c0_i32_503 v719
  v720.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_636 : BitVec 32 := 512#32
  let v881 : BitVec 32 := Scalar.muli v2 c512_i32_636
  let v882 : Index := Scalar.indexCast v881
  let c0_637 : Index := 0#32
  ![v882.toNat, 0]
def k0_dev18 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_793 : BitVec 32 := 3#32
  let v1076 : BitVec 32 := Scalar.xori v2 c3_i32_793
  let c1_i32_798 : BitVec 32 := 1#32
  let v1077 : BitVec 32 := Scalar.muli v1076 c1_i32_798
  let v1078 : BitVec 32 := Scalar.addi c0_i32_799 v1077
  v1078.toNat
def k0_dev19 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_838 : BitVec 32 := 4#32
  let v1131 : BitVec 32 := Scalar.xori v2 c4_i32_838
  let c1_i32_843 : BitVec 32 := 1#32
  let v1132 : BitVec 32 := Scalar.muli v1131 c1_i32_843
  let v1133 : BitVec 32 := Scalar.addi c0_i32_844 v1132
  v1133.toNat
def k0_dev20 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_883 : BitVec 32 := 1#32
  let v1186 : BitVec 32 := Scalar.xori v2 c1_i32_883
  let c1_i32_888 : BitVec 32 := 1#32
  let v1187 : BitVec 32 := Scalar.muli v1186 c1_i32_888
  let v1188 : BitVec 32 := Scalar.addi c0_i32_889 v1187
  v1188.toNat
def k0_dev21 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_928 : BitVec 32 := 3#32
  let v1241 : BitVec 32 := Scalar.xori v2 c3_i32_928
  let c1_i32_933 : BitVec 32 := 1#32
  let v1242 : BitVec 32 := Scalar.muli v1241 c1_i32_933
  let v1243 : BitVec 32 := Scalar.addi c0_i32_934 v1242
  v1243.toNat
def k0_dev22 (d0 : Dev nD) : Nat :=
  let c0_i32_979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_973 : BitVec 32 := 1#32
  let v1296 : BitVec 32 := Scalar.xori v2 c1_i32_973
  let c1_i32_978 : BitVec 32 := 1#32
  let v1297 : BitVec 32 := Scalar.muli v1296 c1_i32_978
  let v1298 : BitVec 32 := Scalar.addi c0_i32_979 v1297
  v1298.toNat
def k0_dev23 (d0 : Dev nD) : Nat :=
  let c0_i32_1024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1018 : BitVec 32 := 4#32
  let v1351 : BitVec 32 := Scalar.xori v2 c4_i32_1018
  let c1_i32_1023 : BitVec 32 := 1#32
  let v1352 : BitVec 32 := Scalar.muli v1351 c1_i32_1023
  let v1353 : BitVec 32 := Scalar.addi c0_i32_1024 v1352
  v1353.toNat
def k0_dev24 (d0 : Dev nD) : Nat :=
  let c0_i32_1069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1063 : BitVec 32 := 4#32
  let v1406 : BitVec 32 := Scalar.xori v2 c4_i32_1063
  let c1_i32_1068 : BitVec 32 := 1#32
  let v1407 : BitVec 32 := Scalar.muli v1406 c1_i32_1068
  let v1408 : BitVec 32 := Scalar.addi c0_i32_1069 v1407
  v1408.toNat
def k0_dev25 (d0 : Dev nD) : Nat :=
  let c0_i32_1124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1116 : BitVec 32 := 1#32
  let v1459 : BitVec 32 := Scalar.xori v2 c1_i32_1116
  let c1_i32_1123 : BitVec 32 := 1#32
  let v1460 : BitVec 32 := Scalar.muli v1459 c1_i32_1123
  let v1461 : BitVec 32 := Scalar.addi c0_i32_1124 v1460
  v1461.toNat
def k0_dev26 (d0 : Dev nD) : Nat :=
  let c0_i32_1183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1175 : BitVec 32 := 3#32
  let v1516 : BitVec 32 := Scalar.xori v2 c3_i32_1175
  let c1_i32_1182 : BitVec 32 := 1#32
  let v1517 : BitVec 32 := Scalar.muli v1516 c1_i32_1182
  let v1518 : BitVec 32 := Scalar.addi c0_i32_1183 v1517
  v1518.toNat
def k0_dev27 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1234 : BitVec 32 := 4#32
  let v1573 : BitVec 32 := Scalar.xori v2 c4_i32_1234
  let c1_i32_1241 : BitVec 32 := 1#32
  let v1574 : BitVec 32 := Scalar.muli v1573 c1_i32_1241
  let v1575 : BitVec 32 := Scalar.addi c0_i32_1242 v1574
  v1575.toNat
def k0_dev28 (d0 : Dev nD) : Nat :=
  let c0_i32_1301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1293 : BitVec 32 := 3#32
  let v1630 : BitVec 32 := Scalar.xori v2 c3_i32_1293
  let c1_i32_1300 : BitVec 32 := 1#32
  let v1631 : BitVec 32 := Scalar.muli v1630 c1_i32_1300
  let v1632 : BitVec 32 := Scalar.addi c0_i32_1301 v1631
  v1632.toNat
def k0_dev29 (d0 : Dev nD) : Nat :=
  let c0_i32_1360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1352 : BitVec 32 := 1#32
  let v1687 : BitVec 32 := Scalar.xori v2 c1_i32_1352
  let c1_i32_1359 : BitVec 32 := 1#32
  let v1688 : BitVec 32 := Scalar.muli v1687 c1_i32_1359
  let v1689 : BitVec 32 := Scalar.addi c0_i32_1360 v1688
  v1689.toNat
def k0_dev30 (d0 : Dev nD) : Nat :=
  let c0_i32_1419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1411 : BitVec 32 := 4#32
  let v1744 : BitVec 32 := Scalar.xori v2 c4_i32_1411
  let c1_i32_1418 : BitVec 32 := 1#32
  let v1745 : BitVec 32 := Scalar.muli v1744 c1_i32_1418
  let v1746 : BitVec 32 := Scalar.addi c0_i32_1419 v1745
  v1746.toNat
def k0_dev31 (d0 : Dev nD) : Nat :=
  let c0_i32_1478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1470 : BitVec 32 := 3#32
  let v1801 : BitVec 32 := Scalar.xori v2 c3_i32_1470
  let c1_i32_1477 : BitVec 32 := 1#32
  let v1802 : BitVec 32 := Scalar.muli v1801 c1_i32_1477
  let v1803 : BitVec 32 := Scalar.addi c0_i32_1478 v1802
  v1803.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S4096x8x512 : Shape := ⟨3, ![4096, 8, 512]⟩
abbrev S8x512x2048 : Shape := ⟨3, ![8, 512, 2048]⟩
abbrev S8x4096x2048 : Shape := ⟨3, ![8, 4096, 2048]⟩
abbrev S_ : Shape := ⟨0, ![]⟩

abbrev nBuf : Space → Nat
  | .hbm => 260
  | .vmem => 0
  | .smem => 0
  | _ => 0

abbrev hbmTy0_0 (i : Nat) : BufTy := match i % 128 with
  | 0 => ⟨S4096x4096, .f32⟩
  | 1 => ⟨S4096x2048, .f32⟩
  | 2 => ⟨S4096x8x512, .f32⟩
  | 3 => ⟨S8x512x2048, .f32⟩
  | 4 => ⟨S8x4096x2048, .f32⟩
  | 5 => ⟨S8x4096x2048, .i32⟩
  | 6 => ⟨S8x4096x2048, .i32⟩
  | 7 => ⟨S_, .i32⟩
  | 8 => ⟨S8x4096x2048, .i32⟩
  | 9 => ⟨S8x4096x2048, .i32⟩
  | 10 => ⟨S8x4096x2048, .i32⟩
  | 11 => ⟨S_, .i32⟩
  | 12 => ⟨S8x4096x2048, .i32⟩
  | 13 => ⟨S8x4096x2048, .i1⟩
  | 14 => ⟨S_, .i32⟩
  | 15 => ⟨S8x4096x2048, .i32⟩
  | 16 => ⟨S8x4096x2048, .i1⟩
  | 17 => ⟨S_, .i32⟩
  | 18 => ⟨S8x4096x2048, .i32⟩
  | 19 => ⟨S8x4096x2048, .i1⟩
  | 20 => ⟨S_, .i32⟩
  | 21 => ⟨S_, .i32⟩
  | 22 => ⟨S8x4096x2048, .i32⟩
  | 23 => ⟨S8x4096x2048, .i32⟩
  | 24 => ⟨S8x4096x2048, .i32⟩
  | 25 => ⟨S_, .i32⟩
  | 26 => ⟨S8x4096x2048, .i32⟩
  | 27 => ⟨S8x4096x2048, .i32⟩
  | 28 => ⟨S_, .i32⟩
  | 29 => ⟨S8x4096x2048, .i32⟩
  | 30 => ⟨S8x4096x2048, .i32⟩
  | 31 => ⟨S_, .i32⟩
  | 32 => ⟨S8x4096x2048, .i32⟩
  | 33 => ⟨S8x4096x2048, .i1⟩
  | 34 => ⟨S_, .i32⟩
  | 35 => ⟨S8x4096x2048, .i32⟩
  | 36 => ⟨S8x4096x2048, .i1⟩
  | 37 => ⟨S_, .i32⟩
  | 38 => ⟨S8x4096x2048, .i32⟩
  | 39 => ⟨S8x4096x2048, .i1⟩
  | 40 => ⟨S_, .i32⟩
  | 41 => ⟨S_, .i32⟩
  | 42 => ⟨S8x4096x2048, .i32⟩
  | 43 => ⟨S8x4096x2048, .i32⟩
  | 44 => ⟨S8x4096x2048, .i32⟩
  | 45 => ⟨S_, .i32⟩
  | 46 => ⟨S8x4096x2048, .i32⟩
  | 47 => ⟨S8x4096x2048, .i32⟩
  | 48 => ⟨S_, .i32⟩
  | 49 => ⟨S8x4096x2048, .i32⟩
  | 50 => ⟨S8x4096x2048, .i32⟩
  | 51 => ⟨S_, .i32⟩
  | 52 => ⟨S8x4096x2048, .i32⟩
  | 53 => ⟨S8x4096x2048, .i1⟩
  | 54 => ⟨S_, .i32⟩
  | 55 => ⟨S8x4096x2048, .i32⟩
  | 56 => ⟨S8x4096x2048, .i1⟩
  | 57 => ⟨S_, .i32⟩
  | 58 => ⟨S8x4096x2048, .i32⟩
  | 59 => ⟨S8x4096x2048, .i1⟩
  | 60 => ⟨S_, .i32⟩
  | 61 => ⟨S_, .i32⟩
  | 62 => ⟨S8x4096x2048, .i32⟩
  | 63 => ⟨S8x4096x2048, .i32⟩
  | 64 => ⟨S8x4096x2048, .i32⟩
  | 65 => ⟨S_, .i32⟩
  | 66 => ⟨S8x4096x2048, .i32⟩
  | 67 => ⟨S8x4096x2048, .i32⟩
  | 68 => ⟨S_, .i32⟩
  | 69 => ⟨S8x4096x2048, .i32⟩
  | 70 => ⟨S8x4096x2048, .i32⟩
  | 71 => ⟨S8x4096x2048, .i32⟩
  | 72 => ⟨S_, .i32⟩
  | 73 => ⟨S8x4096x2048, .i32⟩
  | 74 => ⟨S8x4096x2048, .i32⟩
  | 75 => ⟨S8x4096x2048, .i32⟩
  | 76 => ⟨S8x4096x2048, .i32⟩
  | 77 => ⟨S8x4096x2048, .i1⟩
  | 78 => ⟨S_, .f32⟩
  | 79 => ⟨S_, .f32⟩
  | 80 => ⟨S8x4096x2048, .f32⟩
  | 81 => ⟨S8x4096x2048, .f32⟩
  | 82 => ⟨S_, .f32⟩
  | 83 => ⟨S4096x2048, .f32⟩
  | 84 => ⟨S_, .f32⟩
  | 85 => ⟨S4096x2048, .f32⟩
  | 86 => ⟨S4096x2048, .f32⟩
  | 87 => ⟨S4096x2048, .f32⟩
  | 88 => ⟨S_, .f32⟩
  | 89 => ⟨S4096x2048, .f32⟩
  | 90 => ⟨S4096x2048, .f32⟩
  | 91 => ⟨S_, .f32⟩
  | 92 => ⟨S4096x2048, .f32⟩
  | 93 => ⟨S4096x2048, .f32⟩
  | 94 => ⟨S_, .f32⟩
  | 95 => ⟨S4096x2048, .f32⟩
  | 96 => ⟨S4096x2048, .f32⟩
  | 97 => ⟨S_, .i32⟩
  | 98 => ⟨S8x4096x2048, .i32⟩
  | 99 => ⟨S8x4096x2048, .i32⟩
  | 100 => ⟨S8x4096x2048, .i32⟩
  | 101 => ⟨S8x4096x2048, .i32⟩
  | 102 => ⟨S8x4096x2048, .i1⟩
  | 103 => ⟨S_, .f32⟩
  | 104 => ⟨S_, .f32⟩
  | 105 => ⟨S8x4096x2048, .f32⟩
  | 106 => ⟨S8x4096x2048, .f32⟩
  | 107 => ⟨S_, .f32⟩
  | 108 => ⟨S4096x2048, .f32⟩
  | 109 => ⟨S4096x2048, .f32⟩
  | 110 => ⟨S_, .f32⟩
  | 111 => ⟨S4096x2048, .f32⟩
  | 112 => ⟨S4096x2048, .f32⟩
  | 113 => ⟨S4096x2048, .f32⟩
  | 114 => ⟨S_, .f32⟩
  | 115 => ⟨S4096x2048, .f32⟩
  | 116 => ⟨S4096x2048, .f32⟩
  | 117 => ⟨S_, .f32⟩
  | 118 => ⟨S4096x2048, .f32⟩
  | 119 => ⟨S4096x2048, .f32⟩
  | 120 => ⟨S_, .f32⟩
  | 121 => ⟨S4096x2048, .f32⟩
  | 122 => ⟨S4096x2048, .f32⟩
  | 123 => ⟨S_, .i32⟩
  | 124 => ⟨S8x4096x2048, .i32⟩
  | 125 => ⟨S8x4096x2048, .i32⟩
  | 126 => ⟨S8x4096x2048, .i32⟩
  | 127 => ⟨S8x4096x2048, .i32⟩
  | _ => ⟨S4096x4096, .f32⟩

abbrev hbmTy0_1 (i : Nat) : BufTy := match i % 128 with
  | 0 => ⟨S8x4096x2048, .i1⟩
  | 1 => ⟨S_, .f32⟩
  | 2 => ⟨S_, .f32⟩
  | 3 => ⟨S8x4096x2048, .f32⟩
  | 4 => ⟨S8x4096x2048, .f32⟩
  | 5 => ⟨S_, .f32⟩
  | 6 => ⟨S4096x2048, .f32⟩
  | 7 => ⟨S_, .f32⟩
  | 8 => ⟨S4096x2048, .f32⟩
  | 9 => ⟨S4096x2048, .f32⟩
  | 10 => ⟨S4096x2048, .f32⟩
  | 11 => ⟨S_, .f32⟩
  | 12 => ⟨S4096x2048, .f32⟩
  | 13 => ⟨S4096x2048, .f32⟩
  | 14 => ⟨S_, .f32⟩
  | 15 => ⟨S4096x2048, .f32⟩
  | 16 => ⟨S4096x2048, .f32⟩
  | 17 => ⟨S_, .f32⟩
  | 18 => ⟨S4096x2048, .f32⟩
  | 19 => ⟨S4096x2048, .f32⟩
  | 20 => ⟨S4096x2048, .f32⟩
  | 21 => ⟨S_, .i32⟩
  | 22 => ⟨S8x4096x2048, .i32⟩
  | 23 => ⟨S8x4096x2048, .i32⟩
  | 24 => ⟨S8x4096x2048, .i1⟩
  | 25 => ⟨S_, .f32⟩
  | 26 => ⟨S_, .f32⟩
  | 27 => ⟨S8x4096x2048, .f32⟩
  | 28 => ⟨S8x4096x2048, .f32⟩
  | 29 => ⟨S_, .f32⟩
  | 30 => ⟨S4096x2048, .f32⟩
  | 31 => ⟨S4096x2048, .f32⟩
  | 32 => ⟨S8x4096x2048, .i32⟩
  | 33 => ⟨S8x4096x2048, .i32⟩
  | 34 => ⟨S8x4096x2048, .i32⟩
  | 35 => ⟨S8x4096x2048, .i32⟩
  | 36 => ⟨S8x4096x2048, .i1⟩
  | 37 => ⟨S_, .f32⟩
  | 38 => ⟨S_, .f32⟩
  | 39 => ⟨S8x4096x2048, .f32⟩
  | 40 => ⟨S8x4096x2048, .f32⟩
  | 41 => ⟨S_, .f32⟩
  | 42 => ⟨S4096x2048, .f32⟩
  | 43 => ⟨S_, .f32⟩
  | 44 => ⟨S4096x2048, .f32⟩
  | 45 => ⟨S4096x2048, .f32⟩
  | 46 => ⟨S4096x2048, .f32⟩
  | 47 => ⟨S_, .f32⟩
  | 48 => ⟨S4096x2048, .f32⟩
  | 49 => ⟨S4096x2048, .f32⟩
  | 50 => ⟨S_, .f32⟩
  | 51 => ⟨S4096x2048, .f32⟩
  | 52 => ⟨S4096x2048, .f32⟩
  | 53 => ⟨S_, .f32⟩
  | 54 => ⟨S4096x2048, .f32⟩
  | 55 => ⟨S4096x2048, .f32⟩
  | 56 => ⟨S8x4096x2048, .i32⟩
  | 57 => ⟨S8x4096x2048, .i32⟩
  | 58 => ⟨S8x4096x2048, .i32⟩
  | 59 => ⟨S8x4096x2048, .i1⟩
  | 60 => ⟨S_, .f32⟩
  | 61 => ⟨S_, .f32⟩
  | 62 => ⟨S8x4096x2048, .f32⟩
  | 63 => ⟨S8x4096x2048, .f32⟩
  | 64 => ⟨S_, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S4096x2048, .f32⟩
  | 71 => ⟨S_, .f32⟩
  | 72 => ⟨S4096x2048, .f32⟩
  | 73 => ⟨S4096x2048, .f32⟩
  | 74 => ⟨S_, .f32⟩
  | 75 => ⟨S4096x2048, .f32⟩
  | 76 => ⟨S4096x2048, .f32⟩
  | 77 => ⟨S_, .f32⟩
  | 78 => ⟨S4096x2048, .f32⟩
  | 79 => ⟨S4096x2048, .f32⟩
  | 80 => ⟨S8x4096x2048, .i32⟩
  | 81 => ⟨S8x4096x2048, .i32⟩
  | 82 => ⟨S8x4096x2048, .i32⟩
  | 83 => ⟨S8x4096x2048, .i1⟩
  | 84 => ⟨S_, .f32⟩
  | 85 => ⟨S_, .f32⟩
  | 86 => ⟨S8x4096x2048, .f32⟩
  | 87 => ⟨S8x4096x2048, .f32⟩
  | 88 => ⟨S_, .f32⟩
  | 89 => ⟨S4096x2048, .f32⟩
  | 90 => ⟨S_, .f32⟩
  | 91 => ⟨S4096x2048, .f32⟩
  | 92 => ⟨S4096x2048, .f32⟩
  | 93 => ⟨S4096x2048, .f32⟩
  | 94 => ⟨S_, .f32⟩
  | 95 => ⟨S4096x2048, .f32⟩
  | 96 => ⟨S4096x2048, .f32⟩
  | 97 => ⟨S_, .f32⟩
  | 98 => ⟨S4096x2048, .f32⟩
  | 99 => ⟨S4096x2048, .f32⟩
  | 100 => ⟨S_, .f32⟩
  | 101 => ⟨S4096x2048, .f32⟩
  | 102 => ⟨S4096x2048, .f32⟩
  | 103 => ⟨S4096x2048, .f32⟩
  | 104 => ⟨S8x4096x2048, .i32⟩
  | 105 => ⟨S8x4096x2048, .i32⟩
  | 106 => ⟨S8x4096x2048, .i1⟩
  | 107 => ⟨S_, .f32⟩
  | 108 => ⟨S_, .f32⟩
  | 109 => ⟨S8x4096x2048, .f32⟩
  | 110 => ⟨S8x4096x2048, .f32⟩
  | 111 => ⟨S_, .f32⟩
  | 112 => ⟨S4096x2048, .f32⟩
  | 113 => ⟨S4096x2048, .f32⟩
  | 114 => ⟨S4096x2048, .f32⟩
  | 115 => ⟨S_, .f32⟩
  | 116 => ⟨S4096x2048, .f32⟩
  | 117 => ⟨S4096x2048, .f32⟩
  | 118 => ⟨S4096x2048, .f32⟩
  | 119 => ⟨S4096x2048, .f32⟩
  | 120 => ⟨S_, .f32⟩
  | 121 => ⟨S4096x2048, .f32⟩
  | 122 => ⟨S4096x2048, .f32⟩
  | 123 => ⟨S4096x2048, .f32⟩
  | 124 => ⟨S_, .f32⟩
  | 125 => ⟨S4096x2048, .f32⟩
  | 126 => ⟨S4096x2048, .f32⟩
  | 127 => ⟨S4096x2048, .f32⟩
  | _ => ⟨S4096x4096, .f32⟩

abbrev hbmTy0_2 (i : Nat) : BufTy := match i % 128 with
  | 0 => ⟨S_, .f32⟩
  | 1 => ⟨S4096x2048, .f32⟩
  | 2 => ⟨S4096x2048, .f32⟩
  | 3 => ⟨S4096x2048, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_c_4 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c_5 : Ref sig .tc := ⟨.hbm, 25, rfl⟩
abbrev main_call1_v0 : Ref sig .tc := ⟨.hbm, 26, rfl⟩
abbrev main_v15 : Ref sig .tc := ⟨.hbm, 27, rfl⟩
abbrev main_c_6 : Ref sig .tc := ⟨.hbm, 28, rfl⟩
abbrev main_call2_v0 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_c_8 : Ref sig .tc := ⟨.hbm, 34, rfl⟩
abbrev main_v19 : Ref sig .tc := ⟨.hbm, 35, rfl⟩
abbrev main_v20 : Ref sig .tc := ⟨.hbm, 36, rfl⟩
abbrev main_c_9 : Ref sig .tc := ⟨.hbm, 37, rfl⟩
abbrev main_v21 : Ref sig .tc := ⟨.hbm, 38, rfl⟩
abbrev main_v22 : Ref sig .tc := ⟨.hbm, 39, rfl⟩
abbrev main_c_10 : Ref sig .tc := ⟨.hbm, 40, rfl⟩
abbrev main_c_11 : Ref sig .tc := ⟨.hbm, 41, rfl⟩
abbrev main_call3_v0 : Ref sig .tc := ⟨.hbm, 42, rfl⟩
abbrev main_call3_v1 : Ref sig .tc := ⟨.hbm, 43, rfl⟩
abbrev main_v23 : Ref sig .tc := ⟨.hbm, 44, rfl⟩
abbrev main_c_12 : Ref sig .tc := ⟨.hbm, 45, rfl⟩
abbrev main_call4_v0 : Ref sig .tc := ⟨.hbm, 46, rfl⟩
abbrev main_v24 : Ref sig .tc := ⟨.hbm, 47, rfl⟩
abbrev main_c_13 : Ref sig .tc := ⟨.hbm, 48, rfl⟩
abbrev main_call5_v0 : Ref sig .tc := ⟨.hbm, 49, rfl⟩
abbrev main_v25 : Ref sig .tc := ⟨.hbm, 50, rfl⟩
abbrev main_c_14 : Ref sig .tc := ⟨.hbm, 51, rfl⟩
abbrev main_v26 : Ref sig .tc := ⟨.hbm, 52, rfl⟩
abbrev main_v27 : Ref sig .tc := ⟨.hbm, 53, rfl⟩
abbrev main_c_15 : Ref sig .tc := ⟨.hbm, 54, rfl⟩
abbrev main_v28 : Ref sig .tc := ⟨.hbm, 55, rfl⟩
abbrev main_v29 : Ref sig .tc := ⟨.hbm, 56, rfl⟩
abbrev main_c_16 : Ref sig .tc := ⟨.hbm, 57, rfl⟩
abbrev main_v30 : Ref sig .tc := ⟨.hbm, 58, rfl⟩
abbrev main_v31 : Ref sig .tc := ⟨.hbm, 59, rfl⟩
abbrev main_c_17 : Ref sig .tc := ⟨.hbm, 60, rfl⟩
abbrev main_c_18 : Ref sig .tc := ⟨.hbm, 61, rfl⟩
abbrev main_call6_v0 : Ref sig .tc := ⟨.hbm, 62, rfl⟩
abbrev main_call6_v1 : Ref sig .tc := ⟨.hbm, 63, rfl⟩
abbrev main_v32 : Ref sig .tc := ⟨.hbm, 64, rfl⟩
abbrev main_c_19 : Ref sig .tc := ⟨.hbm, 65, rfl⟩
abbrev main_call7_v0 : Ref sig .tc := ⟨.hbm, 66, rfl⟩
abbrev main_v33 : Ref sig .tc := ⟨.hbm, 67, rfl⟩
abbrev main_c_20 : Ref sig .tc := ⟨.hbm, 68, rfl⟩
abbrev main_call8_v0 : Ref sig .tc := ⟨.hbm, 69, rfl⟩
abbrev main_v34 : Ref sig .tc := ⟨.hbm, 70, rfl⟩
abbrev main_v35 : Ref sig .tc := ⟨.hbm, 71, rfl⟩
abbrev main_c_21 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst : Ref sig .tc := ⟨.hbm, 78, rfl⟩
abbrev main_call9_v0 : Ref sig .tc := ⟨.hbm, 79, rfl⟩
abbrev main_call9_v1 : Ref sig .tc := ⟨.hbm, 80, rfl⟩
abbrev main_v41 : Ref sig .tc := ⟨.hbm, 81, rfl⟩
abbrev main_cst_22 : Ref sig .tc := ⟨.hbm, 82, rfl⟩
abbrev main_v42 : Ref sig .tc := ⟨.hbm, 83, rfl⟩
abbrev main_cst_23 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_24 : Ref sig .tc := ⟨.hbm, 88, rfl⟩
abbrev main_v46 : Ref sig .tc := ⟨.hbm, 89, rfl⟩
abbrev main_v47 : Ref sig .tc := ⟨.hbm, 90, rfl⟩
abbrev main_cst_25 : Ref sig .tc := ⟨.hbm, 91, rfl⟩
abbrev main_v48 : Ref sig .tc := ⟨.hbm, 92, rfl⟩
abbrev main_v49 : Ref sig .tc := ⟨.hbm, 93, rfl⟩
abbrev main_cst_26 : Ref sig .tc := ⟨.hbm, 94, rfl⟩
abbrev main_v50 : Ref sig .tc := ⟨.hbm, 95, rfl⟩
abbrev main_v51 : Ref sig .tc := ⟨.hbm, 96, rfl⟩
abbrev main_c_27 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_28 : Ref sig .tc := ⟨.hbm, 103, rfl⟩
abbrev main_call10_v0 : Ref sig .tc := ⟨.hbm, 104, rfl⟩
abbrev main_call10_v1 : Ref sig .tc := ⟨.hbm, 105, rfl⟩
abbrev main_v57 : Ref sig .tc := ⟨.hbm, 106, rfl⟩
abbrev main_cst_29 : Ref sig .tc := ⟨.hbm, 107, rfl⟩
abbrev main_v58 : Ref sig .tc := ⟨.hbm, 108, rfl⟩
abbrev main_v59 : Ref sig .tc := ⟨.hbm, 109, rfl⟩
abbrev main_cst_30 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_31 : Ref sig .tc := ⟨.hbm, 114, rfl⟩
abbrev main_v63 : Ref sig .tc := ⟨.hbm, 115, rfl⟩
abbrev main_v64 : Ref sig .tc := ⟨.hbm, 116, rfl⟩
abbrev main_cst_32 : Ref sig .tc := ⟨.hbm, 117, rfl⟩
abbrev main_v65 : Ref sig .tc := ⟨.hbm, 118, rfl⟩
abbrev main_v66 : Ref sig .tc := ⟨.hbm, 119, rfl⟩
abbrev main_cst_33 : Ref sig .tc := ⟨.hbm, 120, rfl⟩
abbrev main_v67 : Ref sig .tc := ⟨.hbm, 121, rfl⟩
abbrev main_v68 : Ref sig .tc := ⟨.hbm, 122, rfl⟩
abbrev main_c_34 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_35 : Ref sig .tc := ⟨.hbm, 129, rfl⟩
abbrev main_call11_v0 : Ref sig .tc := ⟨.hbm, 130, rfl⟩
abbrev main_call11_v1 : Ref sig .tc := ⟨.hbm, 131, rfl⟩
abbrev main_v74 : Ref sig .tc := ⟨.hbm, 132, rfl⟩
abbrev main_cst_36 : Ref sig .tc := ⟨.hbm, 133, rfl⟩
abbrev main_v75 : Ref sig .tc := ⟨.hbm, 134, rfl⟩
abbrev main_cst_37 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_38 : Ref sig .tc := ⟨.hbm, 139, rfl⟩
abbrev main_v79 : Ref sig .tc := ⟨.hbm, 140, rfl⟩
abbrev main_v80 : Ref sig .tc := ⟨.hbm, 141, rfl⟩
abbrev main_cst_39 : Ref sig .tc := ⟨.hbm, 142, rfl⟩
abbrev main_v81 : Ref sig .tc := ⟨.hbm, 143, rfl⟩
abbrev main_v82 : Ref sig .tc := ⟨.hbm, 144, rfl⟩
abbrev main_cst_40 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_c_41 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_42 : Ref sig .tc := ⟨.hbm, 153, rfl⟩
abbrev main_call12_v0 : Ref sig .tc := ⟨.hbm, 154, rfl⟩
abbrev main_call12_v1 : Ref sig .tc := ⟨.hbm, 155, rfl⟩
abbrev main_v89 : Ref sig .tc := ⟨.hbm, 156, rfl⟩
abbrev main_cst_43 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_cst_44 : Ref sig .tc := ⟨.hbm, 165, rfl⟩
abbrev main_call13_v0 : Ref sig .tc := ⟨.hbm, 166, rfl⟩
abbrev main_call13_v1 : Ref sig .tc := ⟨.hbm, 167, rfl⟩
abbrev main_v97 : Ref sig .tc := ⟨.hbm, 168, rfl⟩
abbrev main_cst_45 : Ref sig .tc := ⟨.hbm, 169, rfl⟩
abbrev main_v98 : Ref sig .tc := ⟨.hbm, 170, rfl⟩
abbrev main_cst_46 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_cst_47 : Ref sig .tc := ⟨.hbm, 175, rfl⟩
abbrev main_v102 : Ref sig .tc := ⟨.hbm, 176, rfl⟩
abbrev main_v103 : Ref sig .tc := ⟨.hbm, 177, rfl⟩
abbrev main_cst_48 : Ref sig .tc := ⟨.hbm, 178, rfl⟩
abbrev main_v104 : Ref sig .tc := ⟨.hbm, 179, rfl⟩
abbrev main_v105 : Ref sig .tc := ⟨.hbm, 180, rfl⟩
abbrev main_cst_49 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_cst_50 : Ref sig .tc := ⟨.hbm, 188, rfl⟩
abbrev main_call14_v0 : Ref sig .tc := ⟨.hbm, 189, rfl⟩
abbrev main_call14_v1 : Ref sig .tc := ⟨.hbm, 190, rfl⟩
abbrev main_v112 : Ref sig .tc := ⟨.hbm, 191, rfl⟩
abbrev main_cst_51 : Ref sig .tc := ⟨.hbm, 192, rfl⟩
abbrev main_v113 : Ref sig .tc := ⟨.hbm, 193, rfl⟩
abbrev main_v114 : Ref sig .tc := ⟨.hbm, 194, rfl⟩
abbrev main_cst_52 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_cst_53 : Ref sig .tc := ⟨.hbm, 199, rfl⟩
abbrev main_v118 : Ref sig .tc := ⟨.hbm, 200, rfl⟩
abbrev main_v119 : Ref sig .tc := ⟨.hbm, 201, rfl⟩
abbrev main_cst_54 : Ref sig .tc := ⟨.hbm, 202, rfl⟩
abbrev main_v120 : Ref sig .tc := ⟨.hbm, 203, rfl⟩
abbrev main_v121 : Ref sig .tc := ⟨.hbm, 204, rfl⟩
abbrev main_cst_55 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_56 : Ref sig .tc := ⟨.hbm, 212, rfl⟩
abbrev main_call15_v0 : Ref sig .tc := ⟨.hbm, 213, rfl⟩
abbrev main_call15_v1 : Ref sig .tc := ⟨.hbm, 214, rfl⟩
abbrev main_v128 : Ref sig .tc := ⟨.hbm, 215, rfl⟩
abbrev main_cst_57 : Ref sig .tc := ⟨.hbm, 216, rfl⟩
abbrev main_v129 : Ref sig .tc := ⟨.hbm, 217, rfl⟩
abbrev main_cst_58 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_cst_59 : Ref sig .tc := ⟨.hbm, 222, rfl⟩
abbrev main_v133 : Ref sig .tc := ⟨.hbm, 223, rfl⟩
abbrev main_v134 : Ref sig .tc := ⟨.hbm, 224, rfl⟩
abbrev main_cst_60 : Ref sig .tc := ⟨.hbm, 225, rfl⟩
abbrev main_v135 : Ref sig .tc := ⟨.hbm, 226, rfl⟩
abbrev main_v136 : Ref sig .tc := ⟨.hbm, 227, rfl⟩
abbrev main_cst_61 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_cst_62 : Ref sig .tc := ⟨.hbm, 235, rfl⟩
abbrev main_call16_v0 : Ref sig .tc := ⟨.hbm, 236, rfl⟩
abbrev main_call16_v1 : Ref sig .tc := ⟨.hbm, 237, rfl⟩
abbrev main_v143 : Ref sig .tc := ⟨.hbm, 238, rfl⟩
abbrev main_cst_63 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_cst_64 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_cst_65 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_cst_66 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_cst_67 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩

abbrev nD : Nat := 1
abbrev τ : Topo := Topo.v7x

variable {F : FTy → Type} [FloatOps F]
-- ==== Proof.Clean.lean ====
/-
The kernel's body written once for a column slice and repeated over the seven slices in the orders
the kernel visits them, and the equation that the printed body is this one.
-/
module

public import proofs.«01_k».proof.Proof.Gen.KernelIdeal

@[expose] public section

noncomputable section

namespace Cert.KernelIdeal.Hand

open Idealize.ShloMosaic Idealize.SL.Sem Facts₀ Facts

variable {F : FTy → Type} [FloatOps F]

/-- The programs a core of this mesh runs. -/
abbrev PrK (F : FTy → Type) [Facts] (α : Type) := Prog (TpuEff nD τ sig (Elt F) Λ₀ .tc) α

/-! ## Shapes of a slice `w` columns wide -/

/-- One 512-row plane. -/
abbrev sh2 (w : Nat) : Shape := ⟨2, ![512, w]⟩
/-- `n` planes. -/
abbrev sh3 (n w : Nat) : Shape := ⟨3, ![n, 512, w]⟩

theorem inb3 {n w k j : Nat} (h : j + k ≤ n) : ∀ a, (![j, 0, 0] : Fin 3 → Nat) a + (sh3 k w).size a ≤ (sh3 n w).size a :=
  fun a => by
    fin_cases a
    · exact h
    · exact le_of_eq (Nat.zero_add _)
    · exact le_of_eq (Nat.zero_add _)

/-- Planes `j` to `j + k` of `n`. -/
abbrev planes (n w k j : Nat) (h : j + k ≤ n) : Rect (sh3 n w) := Rect.unit (s := sh3 n w) ![j, 0, 0] (sh3 k w).size (inb3 h)

theorem inb2 {w lo : Nat} (h : lo + w ≤ 2048) : ∀ a, (![0, lo] : Fin 2 → Nat) a + (sh2 w).size a ≤ S512x2048.size a :=
  fun a => by
    fin_cases a
    · exact le_of_eq (Nat.zero_add _)
    · exact h

/-- Columns `lo` to `lo + w`. -/
abbrev cols (w lo : Nat) (h : lo + w ≤ 2048) : Rect S512x2048 := Rect.unit (s := S512x2048) ![0, lo] (sh2 w).size (inb2 h)

/-- The three widths. -/
def Wide (w : Nat) : Prop := w = 256 ∨ w = 384 ∨ w = 128

section widths
variable {w : Nat} (hw : Wide w)
include hw

theorem pos2 : 0 < (sh2 w).numel := by rcases hw with rfl | rfl | rfl <;> decide
theorem pos3 : 0 < (sh3 1 w).numel := by rcases hw with rfl | rfl | rfl <;> decide
theorem sc13 : (sh3 1 w).ShapeCasts (sh2 w) := by rcases hw with rfl | rfl | rfl <;> decide
theorem sc31 : (sh2 w).ShapeCasts (sh3 1 w) := by rcases hw with rfl | rfl | rfl <;> decide
theorem sc22 : (sh2 w).ShapeCasts (sh2 w) := by rcases hw with rfl | rfl | rfl <;> decide
theorem sq13 : (sh3 1 w).Squeezes (sh2 w) := by rcases hw with rfl | rfl | rfl <;> decide

theorem dotWf : DotDims.WF S512x512 (sh2 w) (sh2 w) [1] [0] [0] [1] [] [] := by rcases hw with rfl | rfl | rfl <;> decide

theorem packed4 {j : Nat} (h : j + 1 ≤ 4) : (planes 4 w 1 j h).PackedRows (EltTy.packing .i8) := by
  obtain rfl | rfl | rfl | rfl : j = 0 ∨ j = 1 ∨ j = 2 ∨ j = 3 := by omega
  all_goals rcases hw with rfl | rfl | rfl <;> decide +revert
theorem packed2 {j : Nat} (h : j + 1 ≤ 2) : (planes 2 w 1 j h).PackedRows (EltTy.packing .i8) := by
  obtain rfl | rfl : j = 0 ∨ j = 1 := by omega
  all_goals rcases hw with rfl | rfl | rfl <;> decide +revert
theorem packedH {j : Nat} (h : j + 1 ≤ 2) : (planes 2 w 1 j h).PackedRows (EltTy.packing .bf16) := by
  obtain rfl | rfl : j = 0 ∨ j = 1 := by omega
  all_goals rcases hw with rfl | rfl | rfl <;> decide +revert
theorem words4 {j : Nat} (h : j + 2 ≤ 4) : (planes 4 w 2 j h).WholeWords (EltTy.packing .i8) := by
  obtain rfl | rfl | rfl : j = 0 ∨ j = 1 ∨ j = 2 := by omega
  all_goals rcases hw with rfl | rfl | rfl <;> decide +revert
theorem wordsG : (planes 2 w 1 1 (le_refl 2)).WholeWords (EltTy.packing .bf16) := by
  rcases hw with rfl | rfl | rfl <;> decide +revert
theorem wordsR : (planes 1 w 1 0 (le_refl 1)).WholeWords (EltTy.packing .bf16) := by
  rcases hw with rfl | rfl | rfl <;> decide +revert

end widths

/-- A plane's product, contracted over 512. -/
def dotW {w : Nat} (hw : Wide w) : DotDims S512x512 (sh2 w) (sh2 w) where
  lhsContracting := [1]
  rhsContracting := [0]
  lhsNonContracting := [0]
  rhsNonContracting := [1]
  lhsBatch := []
  rhsBatch := []
  wf := dotWf hw

/-! ## Device words -/

/-- This device's number xor `k`, as the kernel computes it. -/
def peerN (d : Dev nD) (k : Nat) : Nat :=
  (Scalar.addi (0#32) (Scalar.muli (Scalar.xori (Scalar.remsi (Scalar.divsi (Dev.word d) 1#32) 8#32) (BitVec.ofNat 32 k)) 1#32)).toNat

theorem peerN_lt : ∀ (d : Dev nD) (k : Fin 8), peerN d k.val < nD := by decide +kernel

/-- The device whose number is this one's xor `k`. -/
abbrev peer (d : Dev nD) (k : Fin 8) : Dev nD := ⟨peerN d k.val, peerN_lt d k⟩

theorem xoff_inb : ∀ (d : Dev nD) (k : Fin 8), ∀ a, (k0_off1 d (BitVec.ofNat 32 k.val)) a + S512x512.size a ≤ S4096x512.size a := by
  decide +kernel

theorem xoff2_inb : ∀ (d : Dev nD), ∀ a, (k0_off2 d) a + S512x512.size a ≤ S4096x512.size a := by
  decide +kernel

/-! ## A slice -/

section
variable [Facts]

/-- A column slice: its columns, the masks of its three exchanges, and its buffers. -/
structure Slice where
  w : Nat
  hw : Wide w
  lo : Nat
  hlo : lo + w ≤ 2048
  k1 : Fin 8
  k2 : Fin 8
  k3 : Fin 8
  k12 : Fin 8
  k13 : Fin 8
  k23 : Fin 8
  k123 : Fin 8
  s1 : Memref sig .tc .vmem (sh3 4 w) .i8
  s1w : s1.IsWhole
  r8 : Memref sig .tc .vmem (sh3 4 w) .i8
  r8w : r8.IsWhole
  f1 : Memref sig .tc .vmem (sh3 2 w) .i8
  f1w : f1.IsWhole
  r2 : Memref sig .tc .vmem (sh3 2 w) .i8
  r2w : r2.IsWhole
  g2 : Memref sig .tc .vmem (sh3 2 w) .bf16
  g2w : g2.IsWhole
  r3 : Memref sig .tc .vmem (sh3 1 w) .bf16
  r3w : r3.IsWhole
  pb : Memref sig .tc .vmem (sh3 4 w) .f32
  pbw : pb.IsWhole

/-- The seven slices. -/
def slice : Fin 7 → Slice
  | 0 => ⟨256, .inl rfl, 0, by decide, 1, 3, 4, 2, 5, 7, 6, Memref.whole cc0_scratch0, Memref.isWhole_whole _, Memref.whole cc0_scratch7, Memref.isWhole_whole _, Memref.whole cc0_scratch14, Memref.isWhole_whole _, Memref.whole cc0_scratch21, Memref.isWhole_whole _, Memref.whole cc0_scratch28, Memref.isWhole_whole _, Memref.whole cc0_scratch35, Memref.isWhole_whole _, Memref.whole cc0_scratch42, Memref.isWhole_whole _⟩
  | 1 => ⟨256, .inl rfl, 256, by decide, 1, 3, 4, 2, 5, 7, 6, Memref.whole cc0_scratch1, Memref.isWhole_whole _, Memref.whole cc0_scratch8, Memref.isWhole_whole _, Memref.whole cc0_scratch15, Memref.isWhole_whole _, Memref.whole cc0_scratch22, Memref.isWhole_whole _, Memref.whole cc0_scratch29, Memref.isWhole_whole _, Memref.whole cc0_scratch36, Memref.isWhole_whole _, Memref.whole cc0_scratch43, Memref.isWhole_whole _⟩
  | 2 => ⟨384, .inr (.inl rfl), 512, by decide, 3, 4, 1, 7, 2, 5, 6, Memref.whole cc0_scratch2, Memref.isWhole_whole _, Memref.whole cc0_scratch9, Memref.isWhole_whole _, Memref.whole cc0_scratch16, Memref.isWhole_whole _, Memref.whole cc0_scratch23, Memref.isWhole_whole _, Memref.whole cc0_scratch30, Memref.isWhole_whole _, Memref.whole cc0_scratch37, Memref.isWhole_whole _, Memref.whole cc0_scratch44, Memref.isWhole_whole _⟩
  | 3 => ⟨384, .inr (.inl rfl), 896, by decide, 3, 4, 1, 7, 2, 5, 6, Memref.whole cc0_scratch3, Memref.isWhole_whole _, Memref.whole cc0_scratch10, Memref.isWhole_whole _, Memref.whole cc0_scratch17, Memref.isWhole_whole _, Memref.whole cc0_scratch24, Memref.isWhole_whole _, Memref.whole cc0_scratch31, Memref.isWhole_whole _, Memref.whole cc0_scratch38, Memref.isWhole_whole _, Memref.whole cc0_scratch45, Memref.isWhole_whole _⟩
  | 4 => ⟨384, .inr (.inl rfl), 1280, by decide, 4, 1, 3, 5, 7, 2, 6, Memref.whole cc0_scratch4, Memref.isWhole_whole _, Memref.whole cc0_scratch11, Memref.isWhole_whole _, Memref.whole cc0_scratch18, Memref.isWhole_whole _, Memref.whole cc0_scratch25, Memref.isWhole_whole _, Memref.whole cc0_scratch32, Memref.isWhole_whole _, Memref.whole cc0_scratch39, Memref.isWhole_whole _, Memref.whole cc0_scratch46, Memref.isWhole_whole _⟩
  | 5 => ⟨256, .inl rfl, 1664, by decide, 4, 1, 3, 5, 7, 2, 6, Memref.whole cc0_scratch5, Memref.isWhole_whole _, Memref.whole cc0_scratch12, Memref.isWhole_whole _, Memref.whole cc0_scratch19, Memref.isWhole_whole _, Memref.whole cc0_scratch26, Memref.isWhole_whole _, Memref.whole cc0_scratch33, Memref.isWhole_whole _, Memref.whole cc0_scratch40, Memref.isWhole_whole _, Memref.whole cc0_scratch47, Memref.isWhole_whole _⟩
  | 6 => ⟨128, .inr (.inr rfl), 1920, by decide, 1, 4, 3, 5, 2, 7, 6, Memref.whole cc0_scratch6, Memref.isWhole_whole _, Memref.whole cc0_scratch13, Memref.isWhole_whole _, Memref.whole cc0_scratch20, Memref.isWhole_whole _, Memref.whole cc0_scratch27, Memref.isWhole_whole _, Memref.whole cc0_scratch34, Memref.isWhole_whole _, Memref.whole cc0_scratch41, Memref.isWhole_whole _, Memref.whole cc0_scratch48, Memref.isWhole_whole _⟩

/-! ## Values -/

/-- The product of a block of `x` and the slice's columns of `w`. -/
def prodV {w : Nat} (hw : Wide w) (x : Vec F S512x512 .f32) (y : Vec F (sh2 w) .f32) : FVec F (sh2 w) .f32 :=
  matmul (dotW hw) none (shapeCast S512x512 x shapeCasts_S512x512_S512x512) (shapeCast (sh2 w) y (sc22 hw))
    (constant (sh2 w) .f32 0x00000000#32)

/-- Scale, round, clip. -/
def quantV {w : Nat} (s : F .f32) (p : FVec F (sh2 w) .f32) : IVec (sh2 w) 8 :=
  fptosi 8 (minimumf (broadcast (sh2 w) (Scalar.sitofp .f32 127#32))
    (maximumf (broadcast (sh2 w) (Scalar.sitofp .f32 4294967169#32)) (roundeven (mulf p (broadcast (sh2 w) s)))))

/-- The scale undone. -/
def dequantV {w : Nat} (s : F .f32) (q : IVec (sh2 w) 8) : FVec F (sh2 w) .f32 :=
  mulf (sitofp .f32 q) (broadcast (sh2 w) s)

/-- The two scales and their inverses. -/
def q1 : F .f32 := Scalar.ofBits .f32 0x4261C71C#32
def q2 : F .f32 := Scalar.ofBits .f32 0x421EC000#32
def u1 : F .f32 := Scalar.ofBits .f32 0x3C912245#32
def u2 : F .f32 := Scalar.ofBits .f32 0x3CCE69A0#32

/-- What the second exchange sends: the first one's parcel and this device's own product, quantised. -/
def midV {w : Nat} (r : IVec (sh2 w) 8) (p : FVec F (sh2 w) .f32) : IVec (sh2 w) 8 :=
  quantV q2 (addf (dequantV u1 r) p)

/-- What the third exchange sends. -/
def lastV {w : Nat} (r2 r1 : IVec (sh2 w) 8) (p : FVec F (sh2 w) .f32) : FVec F (sh2 w) .bf16 :=
  truncf .bf16 (addf (addf (dequantV u2 r2) (dequantV u1 r1)) p) bitsLt_bf16_f32

/-- The tanh form of gelu. -/
def geluV {w : Nat} (y : FVec F (sh2 w) .f32) : FVec F (sh2 w) .f32 :=
  mulf y (mulf (broadcast (sh2 w) (Scalar.ofBits .f32 0x3F000000#32))
    (addf (broadcast (sh2 w) (Scalar.ofBits .f32 0x3F800000#32))
      (tanh (mulf (broadcast (sh2 w) (Scalar.ofBits .f32 0x3F4C422A#32))
        (addf y (mulf (broadcast (sh2 w) (Scalar.ofBits .f32 0x3D372713#32)) (mulf y (mulf y y))))))))

/-- The result's columns. -/
def outV {w : Nat} (a b : FVec F (sh2 w) .bf16) : FVec F (sh2 w) .f32 :=
  geluV (addf (extf .f32 a bitsLt_bf16_f32) (extf .f32 b bitsLt_bf16_f32))

/-! ## Semaphores -/

theorem inb74 (t : Fin 7) (i : Fin 4) : ∀ a, (![t.val, i.val] : Fin 2 → Nat) a + S1x1.size a ≤ S7x4.size a := fun a => by
  fin_cases a
  · exact t.isLt
  · exact i.isLt

/-- Slice `t`'s `i`-th send semaphore. -/
abbrev ssem (t : Fin 7) (i : Fin 4) : DmaSem sig :=
  ((cc0_scratch49.slice (Rect.unit (s := S7x4) ![t.val, i.val] S1x1.size (inb74 t i))).squeeze S_ squeezes_S1x1_S_).sem
/-- Slice `t`'s `i`-th receive semaphore. -/
abbrev rsem (t : Fin 7) (i : Fin 4) : DmaSem sig :=
  ((cc0_scratch50.slice (Rect.unit (s := S7x4) ![t.val, i.val] S1x1.size (inb74 t i))).squeeze S_ squeezes_S1x1_S_).sem

/-- The barrier's semaphore. -/
abbrev barS := (SemArray.scalar (sig.barrier 0 rfl) : Sems sig S_).sem

/-! ## Memory references of a slice -/

namespace Slice
variable (S : Slice)

abbrev s1h (j : Nat) (h : j + 2 ≤ 4) : Memref sig .tc .vmem (sh3 2 S.w) .i8 := S.s1.slice (planes 4 S.w 2 j h) (fun _ => rfl)
abbrev r8h (j : Nat) (h : j + 2 ≤ 4) : Memref sig .tc .vmem (sh3 2 S.w) .i8 := S.r8.slice (planes 4 S.w 2 j h) (fun _ => rfl)
abbrev g2p : Memref sig .tc .vmem (sh2 S.w) .bf16 :=
  (S.g2.slice (planes 2 S.w 1 1 (le_refl 2)) (fun _ => rfl)).squeeze (sh2 S.w) (sq13 S.hw)
abbrev r3p : Memref sig .tc .vmem (sh2 S.w) .bf16 :=
  (S.r3.slice (planes 1 S.w 1 0 (le_refl 1)) (fun _ => rfl)).squeeze (sh2 S.w) (sq13 S.hw)

theorem s1h_wx {j : Nat} (h : j + 2 ≤ 4) : (S.s1h j h).view.WordExact := S.s1w.wordExact_slice rfl _ (words4 S.hw h)
theorem r8h_wx {j : Nat} (h : j + 2 ≤ 4) : (S.r8h j h).view.WordExact := S.r8w.wordExact_slice rfl _ (words4 S.hw h)
theorem g2p_wx : S.g2p.view.WordExact := (S.g2w.wordExact_slice rfl _ (wordsG S.hw)).reshape _ _
theorem r3p_wx : S.r3p.view.WordExact := (S.r3w.wordExact_slice rfl _ (wordsR S.hw)).reshape _ _

end Slice

/-! ## The pieces -/

/-- A partial product: rows `off` of the staged `x`, the slice's columns of the staged `w`. -/
def prodK (a0 : Memref sig .tc .vmem S4096x512 .f32) (a1 : Memref sig .tc .vmem S512x2048 .f32) (S : Slice)
    (off : Fin 2 → Nat) (hoff : ∀ a, off a + S512x512.size a ≤ S4096x512.size a) : PrK F (FVec F (sh2 S.w) .f32) := do
  let x : Vec F S512x512 .f32 ← Prog.lift (.load a0 (Rect.unit (s := S4096x512) off S512x512.size hoff).toLoadRect (View.loadsAt_vmem h_S512x512))
  let y : Vec F (sh2 S.w) .f32 ← Prog.lift (.load a1 (cols S.w S.lo S.hlo).toLoadRect (View.loadsAt_vmem (pos2 S.hw)))
  pure (prodV S.hw x y)

/-- Plane `j` of a buffer of `n`, read. -/
def getK {e : EltTy} {n : Nat} {S : Slice} (m : Memref sig .tc .vmem (sh3 n S.w) e) (j : Nat) (h : j + 1 ≤ n) :
    PrK F (Vec F (sh3 1 S.w) e) :=
  Prog.lift (.load m (planes n S.w 1 j h).toLoadRect (View.loadsAt_vmem (pos3 S.hw)))

/-- Plane `j` written. -/
def putK {e : EltTy} {n : Nat} {S : Slice} (m : Memref sig .tc .vmem (sh3 n S.w) e) (j : Nat) (h : j + 1 ≤ n)
    (hst : (m.access (planes n S.w 1 j h)).Stores Finset.univ) (v : Vec F (sh3 1 S.w) e) : PrK F PUnit := do
  let _ ← getK (F := F) m j h
  Prog.lift (.store m (planes n S.w 1 j h) v Finset.univ hst (.inl rfl))

/-- A plane of the first parcel. -/
def quantK (a0 : Memref sig .tc .vmem S4096x512 .f32) (a1 : Memref sig .tc .vmem S512x2048 .f32) (S : Slice)
    (d : Dev nD) (k : Fin 8) (j : Nat) (h : j + 1 ≤ 4) : PrK F PUnit := do
  let p ← prodK a0 a1 S (k0_off1 d (BitVec.ofNat 32 k.val)) (xoff_inb d k)
  putK S.s1 j h (View.stores_vmem (pos3 S.hw) (S.s1w.storeExact_slice rfl _ (packed4 S.hw h)) (fun _ => rfl))
    (shapeCast (sh3 1 S.w) (quantV q1 p) (sc31 S.hw))

/-- Half of the first parcel, sent. -/
def sendAK (S : Slice) (t : Fin 7) (i : Fin 4) (d : Dev nD) (j : Nat) (h : j + 2 ≤ 4) : PrK F PUnit :=
  Prog.lift (.enqueueDma (S.s1h j h) (.remote (Dev.tc (peer d S.k1)) (S.r8h j h) (.dma (ssem t i))) (.dma (rsem t i))
    (S.s1h_wx h) (S.r8h_wx h) ⟨⟨rfl, Or.inl rfl⟩, trivial⟩)

/-- The first exchange, its first half and -/
def phA (a0 : Memref sig .tc .vmem S4096x512 .f32) (a1 : Memref sig .tc .vmem S512x2048 .f32) (d : Dev nD) (t : Fin 7) : PrK F PUnit := do
  quantK a0 a1 (slice t) d (slice t).k12 2 (by decide)
  quantK a0 a1 (slice t) d (slice t).k123 3 (by decide)
  sendAK (slice t) t 0 d 2 (by decide)

/-- its second. -/
def phB (a0 : Memref sig .tc .vmem S4096x512 .f32) (a1 : Memref sig .tc .vmem S512x2048 .f32) (d : Dev nD) (t : Fin 7) : PrK F PUnit := do
  quantK a0 a1 (slice t) d (slice t).k1 0 (by decide)
  quantK a0 a1 (slice t) d (slice t).k13 1 (by decide)
  sendAK (slice t) t 2 d 0 (by decide)

/-- One of this device's own products, kept. -/
def keepK (a0 : Memref sig .tc .vmem S4096x512 .f32) (a1 : Memref sig .tc .vmem S512x2048 .f32) (S : Slice)
    (off : Fin 2 → Nat) (hoff : ∀ a, off a + S512x512.size a ≤ S4096x512.size a) (j : Nat) (h : j + 1 ≤ 4) : PrK F PUnit := do
  let p ← prodK a0 a1 S off hoff
  putK S.pb j h (View.stores_vmem_bits_univ (pos3 S.hw) rfl) (shapeCast (sh3 1 S.w) p (sc31 S.hw))

/-- The products of the second exchange. -/
def keep2 (a0 : Memref sig .tc .vmem S4096x512 .f32) (a1 : Memref sig .tc .vmem S512x2048 .f32) (d : Dev nD) (t : Fin 7) : PrK F PUnit := do
  keepK a0 a1 (slice t) (k0_off1 d (BitVec.ofNat 32 (slice t).k2.val)) (xoff_inb d _) 0 (by decide)
  keepK a0 a1 (slice t) (k0_off1 d (BitVec.ofNat 32 (slice t).k23.val)) (xoff_inb d _) 1 (by decide)

/-- The products of the third. -/
def keep3 (a0 : Memref sig .tc .vmem S4096x512 .f32) (a1 : Memref sig .tc .vmem S512x2048 .f32) (d : Dev nD) (t : Fin 7) : PrK F PUnit := do
  keepK a0 a1 (slice t) (k0_off2 d) (xoff2_inb d) 2 (by decide)
  keepK a0 a1 (slice t) (k0_off1 d (BitVec.ofNat 32 (slice t).k3.val)) (xoff_inb d _) 3 (by decide)

/-- A plane of the second parcel. -/
def midK (S : Slice) (j : Nat) (h : j + 1 ≤ 2) : PrK F PUnit := do
  let r ← getK (F := F) S.r8 (j + 2) (by omega)
  let p ← getK (F := F) S.pb j (by omega)
  putK S.f1 j h (View.stores_vmem (pos3 S.hw) (S.f1w.storeExact_slice rfl _ (packed2 S.hw h)) (fun _ => rfl))
    (shapeCast (sh3 1 S.w) (midV (shapeCast (sh2 S.w) r (sc13 S.hw)) (shapeCast (sh2 S.w) p (sc13 S.hw))) (sc31 S.hw))

/-- The second exchange. -/
def phC (d : Dev nD) (t : Fin 7) : PrK F PUnit := do
  Prog.lift (.waitDma2 (rsem t 0) ((slice t).s1h 2 (by decide)) ((slice t).r8h 2 (by decide)) ((slice t).s1h_wx _) ((slice t).r8h_wx _))
  midK (slice t) 0 (by decide)
  midK (slice t) 1 (by decide)
  Prog.lift (.enqueueDma (slice t).f1 (.remote (Dev.tc (peer d (slice t).k2)) (slice t).r2 (.dma (ssem t 1))) (.dma (rsem t 1))
    (slice t).f1w.wordExact (slice t).r2w.wordExact ⟨⟨rfl, Or.inl rfl⟩, trivial⟩)

/-- A plane of the third parcel. -/
def lastK (S : Slice) (j : Nat) (h : j + 1 ≤ 2) : PrK F PUnit := do
  let r ← getK (F := F) S.r2 j h
  let q ← getK (F := F) S.r8 j (by omega)
  let p ← getK (F := F) S.pb (j + 2) (by omega)
  putK S.g2 j h (View.stores_vmem (pos3 S.hw) (S.g2w.storeExact_slice rfl _ (packedH S.hw h)) (fun _ => rfl))
    (shapeCast (sh3 1 S.w)
      (lastV (shapeCast (sh2 S.w) r (sc13 S.hw)) (shapeCast (sh2 S.w) q (sc13 S.hw)) (shapeCast (sh2 S.w) p (sc13 S.hw))) (sc31 S.hw))

/-- The third exchange. -/
def phD (d : Dev nD) (t : Fin 7) : PrK F PUnit := do
  Prog.lift (.waitDma2 (rsem t 1) (slice t).f1 (slice t).r2 (slice t).f1w.wordExact (slice t).r2w.wordExact)
  Prog.lift (.waitDma2 (rsem t 2) ((slice t).s1h 0 (by decide)) ((slice t).r8h 0 (by decide)) ((slice t).s1h_wx _) ((slice t).r8h_wx _))
  lastK (slice t) 0 (by decide)
  lastK (slice t) 1 (by decide)
  Prog.lift (.enqueueDma (slice t).g2p (.remote (Dev.tc (peer d (slice t).k3)) (slice t).r3p (.dma (ssem t 3))) (.dma (rsem t 3))
    (slice t).g2p_wx (slice t).r3p_wx ⟨⟨rfl, Or.inl rfl⟩, trivial⟩)

/-- The result's columns. -/
def phE (a2 : Memref sig .tc .vmem S512x2048 .f32) (t : Fin 7) : PrK F PUnit := do
  Prog.lift (.waitDma2 (rsem t 3) (slice t).g2p (slice t).r3p (slice t).g2p_wx (slice t).r3p_wx)
  let a ← getK (F := F) (slice t).g2 0 (by decide)
  let b ← getK (F := F) (slice t).r3 0 (by decide)
  let _ : Vec F (sh2 (slice t).w) .f32 ← Prog.lift (.load a2 (cols (slice t).w (slice t).lo (slice t).hlo).toLoadRect (View.loadsAt_vmem (pos2 (slice t).hw)))
  Prog.lift (.store a2 (cols (slice t).w (slice t).lo (slice t).hlo)
    (outV (shapeCast (sh2 (slice t).w) a (sc13 (slice t).hw)) (shapeCast (sh2 (slice t).w) b (sc13 (slice t).hw)))
    Finset.univ (View.stores_vmem_bits_univ (pos2 (slice t).hw) rfl) (.inl rfl))

/-- The sends, waited for. -/
def endA (t : Fin 7) : PrK F PUnit :=
  Prog.lift (.waitDma2 (ssem t 0) ((slice t).r8h 2 (by decide)) ((slice t).s1h 2 (by decide)) ((slice t).r8h_wx _) ((slice t).s1h_wx _))
def endB (t : Fin 7) : PrK F PUnit :=
  Prog.lift (.waitDma2 (ssem t 2) ((slice t).r8h 0 (by decide)) ((slice t).s1h 0 (by decide)) ((slice t).r8h_wx _) ((slice t).s1h_wx _))
def endC (t : Fin 7) : PrK F PUnit :=
  Prog.lift (.waitDma2 (ssem t 1) (slice t).r2 (slice t).f1 (slice t).r2w.wordExact (slice t).f1w.wordExact)
def endD (t : Fin 7) : PrK F PUnit :=
  Prog.lift (.waitDma2 (ssem t 3) (slice t).r3p (slice t).g2p (slice t).r3p_wx (slice t).g2p_wx)

/-- The pieces of a list of slices, one after the other. -/
def forL (b : Fin 7 → PrK F PUnit) : List (Fin 7) → PrK F PUnit
  | [] => pure ⟨⟩
  | t :: l => do b t; forL b l

/-- The orders of the visits. -/
def ord1 : List (Fin 7) := [0, 2, 4, 1, 3, 5, 6]
def ord2 : List (Fin 7) := [0, 2, 4, 1, 5, 6, 3]
def ord3 : List (Fin 7) := [2, 4, 0, 5, 3, 1, 6]
def ord4 : List (Fin 7) := [2, 0, 4, 1, 3, 5, 6]

/-- The three peers are told that this device has started, and it waits for theirs. -/
def meet (d : Dev nD) : PrK F PUnit := do
  semSignalWord (peer d 1) barS 1#32
  semSignalWord (peer d 3) barS 1#32
  semSignalWord (peer d 4) barS 1#32
  semWaitWord barS 3#32

/-- The body. -/
def bodyK (a0 : Memref sig .tc .vmem S4096x512 .f32) (a1 a2 : Memref sig .tc .vmem S512x2048 .f32) : PrK F PUnit := do
  let d : Dev nD ← Prog.lift .deviceId
  meet d
  forL (phA a0 a1 d) ord1
  forL (phB a0 a1 d) ord1
  forL (keep2 a0 a1 d) ord2
  forL (keep3 a0 a1 d) ord3
  forL (phC d) ord2
  forL (phD d) ord3
  forL (phE a2) ord4
  forL endA ord1
  forL endB ord1
  forL endC ord2
  forL endD ord3

end

end Cert.KernelIdeal.Hand

end
-- ==== Proof.Own.lean ====
/-
Ownership of the kernel's buffers plane by plane: reading and writing an owned plane, cutting a
buffer into planes and putting it together again.
-/
module

public import proofs.«01_k».proof.Proof.Clean
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchanges' copy of the rounds: a cell's duties are numbered 0, 1, 2. -/
abbrev UB : Type := URounds (GSem nD τ sig) (Fin 3)
/-- The pipeline's copy and the exchanges'. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c` runs `p` to `Q`. -/
abbrev WP (c : Dev nD) {α : Type} (p : PrK F α) (Q : α → sProp 𝕄) : sProp 𝕄 :=
  wp frame (wpE (defs₀ (F := F)) 𝒱₀ (c : Thread nD τ) none) Set.univ p Q

/-- Device `c` owns the memory `m` names, holding `X`. -/
abbrev own (c : Dev nD) {sh : Shape} {e : EltTy} (m : Memref sig .tc .vmem sh e) (X : sh.Idx → Elt F e) : sProp 𝕄 :=
  owns (c : Thread nD τ) m fullShare X

/-- It owns it, holding anything. -/
abbrev anyOwn (c : Dev nD) {sh : Shape} {e : EltTy} (m : Memref sig .tc .vmem sh e) : sProp 𝕄 :=
  iprop(∃ X, own (F := F) c m X)

section basic
variable (c : Dev nD) {sh : Shape} {e : EltTy} (m : Memref sig .tc .vmem sh e)

/-- A load from owned memory. -/
theorem own_load (r : Rect sh) {hl : m.view.LoadsAt r.toLoadRect} (X : sh.Idx → Elt F e)
    {Q : (r.shape.Idx → Elt F e) → sProp 𝕄} :
    own c m X ⊢ iprop((own c m X -∗ Q fun j => X (r.emb j)) -∗ WP c (Prog.lift (.load m r.toLoadRect hl)) Q) := by
  unfold own owns
  iintro ⟨%f, %hf, H⟩ Hk
  iapply (wp_load_rect 𝒱₀ (c : Thread nD τ) none Set.univ (m := m) (r := r) (S := m.view.set) (View.set_slice_subset _ _)) $$ H
  iintro H
  rw [show (m.access r).read (Elt F) f = fun j => X (r.emb j) from by rw [← hf]; rfl, wp_ret]
  imodintro
  iapply Hk
  iexists f
  isplitr; · ipureintro; exact hf
  iexact H

/-- A load of an owned part. -/
theorem part_load (r : Rect sh) (hr : ∀ a, r.stride a = 1) {hl : m.view.LoadsAt r.toLoadRect} (X : r.shape.Idx → Elt F e)
    {Q : (r.shape.Idx → Elt F e) → sProp 𝕄} :
    own c (m.slice r hr) X ⊢ iprop((own c (m.slice r hr) X -∗ Q X) -∗ WP c (Prog.lift (.load m r.toLoadRect hl)) Q) := by
  unfold own owns
  iintro ⟨%f, %hf, H⟩ Hk
  iapply (wp_load_rect 𝒱₀ (c : Thread nD τ) none Set.univ (m := m) (r := r) (S := (m.slice r hr).view.set) (Finset.Subset.refl _)) $$ H
  iintro H
  rw [show (m.access r).read (Elt F) f = X from hf, wp_ret]
  imodintro
  iapply Hk
  iexists f
  isplitr; · ipureintro; exact hf
  iexact H

/-- A store to an owned part. -/
theorem part_store (r : Rect sh) (hr : ∀ a, r.stride a = 1) {hx : (m.access r).Stores Finset.univ}
    {hm : (Finset.univ : Finset r.shape.Idx) = Finset.univ ∨ ∀ a, r.stride a = 1} (X w : r.shape.Idx → Elt F e)
    {Q : PUnit → sProp 𝕄} :
    own c (m.slice r hr) X ⊢ iprop((own c (m.slice r hr) w -∗ Q ⟨⟩)
      -∗ WP c (Prog.lift (.store m r w Finset.univ hx hm)) Q) := by
  unfold own owns
  iintro ⟨%f, %hf, H⟩ Hk
  iapply (wp_store 𝒱₀ (c : Thread nD τ) none Set.univ (m := m) (r := r) (Mk := Finset.univ) (S := (m.slice r hr).view.set)
    (Finset.Subset.refl _)) $$ H
  iintro H
  rw [wp_ret]
  imodintro
  iapply Hk
  iexists (m.access r).write (Elt F) f w Finset.univ
  isplitr; · ipureintro; exact View.read_write_univ _ _
  iexact H

end basic

/-! ## Planes -/

/-- Plane `j` of a buffer of `n`. -/
abbrev row {n w : Nat} {e : EltTy} (m : Memref sig .tc .vmem (sh3 n w) e) (j : Nat) (h : j + 1 ≤ n) :
    Memref sig .tc .vmem (sh3 1 w) e := m.slice (planes n w 1 j h) (fun _ => rfl)

/-- An index of a plane, from one of a buffer of planes. -/
def flat {n w : Nat} (i : (sh3 n w).Idx) : (sh3 1 w).Idx := fun a => match a with
  | ⟨0, _⟩ => (⟨0, Nat.zero_lt_one⟩ : Fin 1)
  | ⟨1, _⟩ => (i 1 : Fin 512)
  | ⟨2, _⟩ => (i 2 : Fin w)

/-- Planes put one on the other. -/
def glue {n w : Nat} {β : Type} (v : Fin n → (sh3 1 w).Idx → β) : (sh3 n w).Idx → β := fun i => v (i 0 : Fin n) (flat i)

theorem planes_emb0 {n w k j : Nat} (h : j + k ≤ n) (i : (sh3 k w).Idx) :
    ((planes n w k j h).emb i 0 : Nat) = j + (i 0 : Nat) := by
  show j + 1 * (i 0 : Nat) = _; omega
theorem planes_emb1 {n w k j : Nat} (h : j + k ≤ n) (i : (sh3 k w).Idx) :
    ((planes n w k j h).emb i 1 : Nat) = (i 1 : Nat) := by
  show 0 + 1 * (i 1 : Nat) = _; omega
theorem planes_emb2 {n w k j : Nat} (h : j + k ≤ n) (i : (sh3 k w).Idx) :
    ((planes n w k j h).emb i 2 : Nat) = (i 2 : Nat) := by
  show 0 + 1 * (i 2 : Nat) = _; omega

theorem idx3_ext {n w : Nat} {i j : (sh3 n w).Idx} (h0 : (i 0 : Nat) = j 0) (h1 : (i 1 : Nat) = j 1) (h2 : (i 2 : Nat) = j 2) : i = j := by
  funext a
  match a with
  | ⟨0, _⟩ => exact Fin.ext h0
  | ⟨1, _⟩ => exact Fin.ext h1
  | ⟨2, _⟩ => exact Fin.ext h2

theorem glue_plane {n w : Nat} {β : Type} (v : Fin n → (sh3 1 w).Idx → β) (j : Fin n) (h : j.val + 1 ≤ n) :
    (fun i => glue v ((planes n w 1 j h).emb i)) = v j := by
  funext i
  have hi : (i 0 : Nat) = 0 := Nat.lt_one_iff.mp (i 0).isLt
  have h0 : ((planes n w 1 j h).emb i 0 : Fin n) = j := Fin.ext ((planes_emb0 h i).trans (by omega))
  have h1 : flat ((planes n w 1 j h).emb i) = i := idx3_ext hi.symm (planes_emb1 h i) (planes_emb2 h i)
  show v ((planes n w 1 j h).emb i 0) (flat ((planes n w 1 j h).emb i)) = v j i
  rw [h0, h1]

theorem planes_disj {n w : Nat} (j j' : Fin n) (hj : j ≠ j') :
    Disjoint (planes n w 1 j.val j.isLt).set (planes n w 1 j'.val j'.isLt).set := by
  refine Rect.disjoint_of_axis _ _ (0 : Fin 3) fun a ha b hb h => hj (Fin.ext ?_)
  have ha' : a < 1 := ha
  have hb' : b < 1 := hb
  have h' : j.val + 1 * a = j'.val + 1 * b := h
  omega

theorem planes_cover {n w : Nat} :
    (Finset.univ : Finset (Fin n)).biUnion (fun j => (planes n w 1 j.val j.isLt).set) = Finset.univ := by
  refine Finset.eq_univ_iff_forall.mpr fun i => Finset.mem_biUnion.mpr ⟨(i 0 : Fin n), Finset.mem_univ _, ?_⟩
  rw [← Rect.map_emb_univ]
  refine Finset.mem_map.mpr ⟨flat i, Finset.mem_univ _, idx3_ext ?_ (planes_emb1 _ _) (planes_emb2 _ _)⟩
  exact (planes_emb0 (w := w) (i 0 : Fin n).isLt (flat i)).trans (Nat.add_zero _)

section planes
variable (c : Dev nD) {n w : Nat} {e : EltTy} (m : Memref sig .tc .vmem (sh3 n w) e)

/-- A buffer is its planes; -/
theorem own_rows (X : (sh3 n w).Idx → Elt F e) :
    own c m X ⊢ (bigSep Finset.univ fun j : Fin n => own c (row m j.val j.isLt) (fun i => X ((planes n w 1 j.val j.isLt).emb i)) : sProp 𝕄) :=
  owns_rects (c : Thread nD τ) m fullShare (fun j : Fin n => planes n w 1 j.val j.isLt) (fun _ _ => rfl) planes_disj planes_cover X

/-- its planes, at given contents, are the buffer. -/
theorem own_glue [∀ e, Nonempty (Elt F e)] (v : Fin n → (sh3 1 w).Idx → Elt F e) :
    (bigSep Finset.univ fun j : Fin n => own c (row m j.val j.isLt) (v j) : sProp 𝕄) ⊢ own c m (glue v) := by
  refine (Entails.of_eq (bigSep_congr fun j _ => ?_)).trans
    (owns_of_rects (c : Thread nD τ) m fullShare (fun j : Fin n => planes n w 1 j.val j.isLt) (fun _ _ => rfl) planes_disj planes_cover (glue v))
  show own c _ (v j) = own c _ _
  exact congrArg (own c (row m j.val j.isLt)) (glue_plane v j j.isLt).symm

end planes

/-- What it is to own a part, said of the whole. -/
theorem own_part (c : Dev nD) {sh : Shape} {e : EltTy} (m : Memref sig .tc .vmem sh e) (r : Rect sh) (hr : ∀ a, r.stride a = 1)
    (X : r.shape.Idx → Elt F e) :
    (own c (m.slice r hr) X : sProp 𝕄) = iprop(∃ f : BufTy.Contents (Elt F) m.view.ty,
      ⌜(fun j => m.view.read (Elt F) f (r.emb j)) = X⌝ ∗ (m.view.loc (c : Thread nD τ) ↦[r.set.map m.view.emb]{fullShare} f)) := by
  rw [← View.set_slice]; rfl

/-- A plane of some planes of a buffer is a plane of the buffer. -/
theorem row_of_planes (c : Dev nD) {n k w : Nat} {e : EltTy} (m : Memref sig .tc .vmem (sh3 n w) e) (j a : Nat) (h : j + k ≤ n) (ha : a + 1 ≤ k)
    (hja : j + a + 1 ≤ n) (X : (sh3 1 w).Idx → Elt F e) :
    (own c (row (m.slice (planes n w k j h) (fun _ => rfl)) a ha) X : sProp 𝕄) = own c (row m (j + a) hja) X := by
  have hE : ∀ i, (planes n w k j h).emb ((planes k w 1 a ha).emb i) = (planes n w 1 (j + a) hja).emb i := fun i => by
    refine idx3_ext ?_ ?_ ?_
    · rw [planes_emb0, planes_emb0, planes_emb0]; omega
    · rw [planes_emb1, planes_emb1, planes_emb1]
    · rw [planes_emb2, planes_emb2, planes_emb2]
  have hS : (planes k w 1 a ha).set.map (m.slice (planes n w k j h) (fun _ => rfl)).view.emb = (planes n w 1 (j + a) hja).set.map m.view.emb := by
    rw [← Rect.map_emb_univ, ← Rect.map_emb_univ, Finset.map_map, Finset.map_map]
    refine congrArg (fun g => Finset.map g _) (Function.Embedding.ext fun i => ?_)
    exact congrArg m.view.emb (hE i)
  refine (own_part c (m.slice (planes n w k j h) (fun _ => rfl)) (planes k w 1 a ha) (fun _ => rfl) X).trans
    (Eq.trans ?_ (own_part c m (planes n w 1 (j + a) hja) (fun _ => rfl) X).symm)
  rw [hS]
  refine congrArg _ (funext fun f => ?_)
  have hR : (fun i => (m.slice (planes n w k j h) (fun _ => rfl)).view.read (Elt F) f ((planes k w 1 a ha).emb i))
      = fun i => m.view.read (Elt F) f ((planes n w 1 (j + a) hja).emb i) := funext fun i => congrArg (m.view.read (Elt F) f) (hE i)
  exact congrArg (fun Y => iprop(⌜Y = X⌝ ∗ (m.view.loc (c : Thread nD τ) ↦[(planes n w 1 (j + a) hja).set.map m.view.emb]{fullShare} f))) hR

theorem squeeze_set {w : Nat} (hw : Wide w) {e : EltTy} (m : Memref sig .tc .vmem (sh3 1 w) e) :
    (m.squeeze (sh2 w) (sq13 hw)).view.set = m.view.set := View.set_reshape _ _

/-- A plane read as a matrix. -/
theorem own_squeeze (c : Dev nD) {w : Nat} (hw : Wide w) {e : EltTy} (m : Memref sig .tc .vmem (sh3 1 w) e) (X : (sh3 1 w).Idx → Elt F e) :
    (own c m X : sProp 𝕄) ⊢ own c (m.squeeze (sh2 w) (sq13 hw)) (shapeCast (sh2 w) X (sc13 hw)) := by
  unfold own owns
  iintro ⟨%f, %hf, H⟩
  iexists f
  isplitr
  · ipureintro; rw [← hf]; rfl
  iapply (Entails.of_eq (congrArg (fun S => (m.view.loc (c : Thread nD τ) ↦[S]{fullShare} f : sProp 𝕄)) (squeeze_set hw m).symm)) $$ H

theorem own_unsqueeze (c : Dev nD) {w : Nat} (hw : Wide w) {e : EltTy} (m : Memref sig .tc .vmem (sh3 1 w) e) (X : (sh2 w).Idx → Elt F e) :
    (own c (m.squeeze (sh2 w) (sq13 hw)) X : sProp 𝕄) ⊢ own c m (shapeCast (sh3 1 w) X (sc31 hw)) := by
  unfold own owns
  iintro ⟨%f, %hf, H⟩
  iexists f
  isplitr
  · ipureintro; rw [← hf]
    exact (shapeCast_shapeCast (m.view.read (Elt F) f) (sc13 hw) (sc31 hw)).symm
  iapply (Entails.of_eq (congrArg (fun S => (m.view.loc (c : Thread nD τ) ↦[S]{fullShare} f : sProp 𝕄)) (squeeze_set hw m))) $$ H

/-! ## One, two and four planes of a buffer -/

theorem bigSep_one (Φ : Fin 1 → sProp 𝕄) : bigSep Finset.univ Φ = Φ 0 := bigSep_univ_eq_bigSepL [0] (by decide) (by decide) Φ
theorem bigSep_two (Φ : Fin 2 → sProp 𝕄) : bigSep Finset.univ Φ = iprop(Φ 0 ∗ Φ 1) :=
  bigSep_univ_eq_bigSepL [0, 1] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

section few
variable (c : Dev nD) {n w : Nat} {e : EltTy}

theorem own_rows1 (m : Memref sig .tc .vmem (sh3 1 w) e) (X : (sh3 1 w).Idx → Elt F e) :
    own c m X ⊢ own c (row m 0 (by decide)) fun i => X ((planes 1 w 1 0 (by decide)).emb i) :=
  (own_rows c m X).trans (Entails.of_eq (bigSep_one _))

theorem own_rows2 (m : Memref sig .tc .vmem (sh3 2 w) e) (X : (sh3 2 w).Idx → Elt F e) :
    own c m X ⊢ iprop((own c (row m 0 (by decide)) fun i => X ((planes 2 w 1 0 (by decide)).emb i))
      ∗ (own c (row m 1 (by decide)) fun i => X ((planes 2 w 1 1 (by decide)).emb i))) :=
  (own_rows c m X).trans (Entails.of_eq (bigSep_two _))

theorem own_rows4 (m : Memref sig .tc .vmem (sh3 4 w) e) (X : (sh3 4 w).Idx → Elt F e) :
    own c m X ⊢ iprop((own c (row m 0 (by decide)) fun i => X ((planes 4 w 1 0 (by decide)).emb i))
      ∗ (own c (row m 1 (by decide)) fun i => X ((planes 4 w 1 1 (by decide)).emb i))
      ∗ (own c (row m 2 (by decide)) fun i => X ((planes 4 w 1 2 (by decide)).emb i))
      ∗ (own c (row m 3 (by decide)) fun i => X ((planes 4 w 1 3 (by decide)).emb i))) :=
  (own_rows c m X).trans (Entails.of_eq (bigSep_four _))

/-- Two planes held one by one, from both at once. -/
theorem rows2_split (m : Memref sig .tc .vmem (sh3 2 w) e) (u v : (sh3 1 w).Idx → Elt F e) :
    own c m (glue ![u, v]) ⊢ iprop(own c (row m 0 (by decide)) u ∗ own c (row m 1 (by decide)) v) := by
  refine (own_rows2 c m (glue ![u, v])).trans (Entails.of_eq ?_)
  have h0 : (fun i => glue ![u, v] ((planes 2 w 1 0 (by decide)).emb i)) = u := glue_plane ![u, v] 0 (by decide)
  have h1 : (fun i => glue ![u, v] ((planes 2 w 1 1 (by decide)).emb i)) = v := glue_plane ![u, v] 1 (by decide)
  rw [h0, h1]

variable [∀ e, Nonempty (Elt F e)]

theorem own_glue1 (m : Memref sig .tc .vmem (sh3 1 w) e) (u : (sh3 1 w).Idx → Elt F e) :
    own c (row m 0 (by decide)) u ⊢ own c m (glue fun _ : Fin 1 => u) :=
  (Entails.of_eq (bigSep_one (fun j : Fin 1 => own c (row m j.val j.isLt) u)).symm).trans (own_glue c m fun _ : Fin 1 => u)

theorem rows2_join (m : Memref sig .tc .vmem (sh3 2 w) e) (u v : (sh3 1 w).Idx → Elt F e) :
    iprop(own c (row m 0 (by decide)) u ∗ own c (row m 1 (by decide)) v) ⊢ own c m (glue ![u, v]) :=
  (Entails.of_eq (bigSep_two (fun j : Fin 2 => own c (row m j.val j.isLt) (![u, v] j))).symm).trans (own_glue c m ![u, v])

theorem own_glue4 (m : Memref sig .tc .vmem (sh3 4 w) e) (u v x y : (sh3 1 w).Idx → Elt F e) :
    iprop(own c (row m 0 (by decide)) u ∗ own c (row m 1 (by decide)) v ∗ own c (row m 2 (by decide)) x ∗ own c (row m 3 (by decide)) y)
      ⊢ own c m (glue ![u, v, x, y]) :=
  (Entails.of_eq (bigSep_four (fun j : Fin 4 => own c (row m j.val j.isLt) (![u, v, x, y] j))).symm).trans (own_glue c m ![u, v, x, y])

end few

section halves
variable (c : Dev nD) {n w : Nat} {e : EltTy} (m : Memref sig .tc .vmem (sh3 n w) e) (j : Nat) (h : j + 2 ≤ n)

/-- Two planes of a buffer held as one memory are held one by one. -/
theorem pair_eq (u v : (sh3 1 w).Idx → Elt F e) :
    (iprop(own c (row (m.slice (planes n w 2 j h) (fun _ => rfl)) 0 (by decide)) u
        ∗ own c (row (m.slice (planes n w 2 j h) (fun _ => rfl)) 1 (by decide)) v) : sProp 𝕄)
      = iprop(own c (row m j (Nat.le_of_succ_le h)) u ∗ own c (row m (j + 1) h) v) :=
  congrArg₂ (fun a b => iprop(a ∗ b)) (row_of_planes c m j 0 h (by decide) (Nat.le_of_succ_le h) u) (row_of_planes c m j 1 h (by decide) h v)

theorem pair_split (u v : (sh3 1 w).Idx → Elt F e) :
    own c (m.slice (planes n w 2 j h) (fun _ => rfl)) (glue ![u, v])
      ⊢ iprop(own c (row m j (Nat.le_of_succ_le h)) u ∗ own c (row m (j + 1) h) v) :=
  (rows2_split c (m.slice (planes n w 2 j h) (fun _ => rfl)) u v).trans (Entails.of_eq (pair_eq c m j h u v))

theorem anyPair_split :
    anyOwn c (m.slice (planes n w 2 j h) (fun _ => rfl))
      ⊢ (iprop(anyOwn c (row m j (Nat.le_of_succ_le h)) ∗ anyOwn c (row m (j + 1) h)) : sProp 𝕄) := by
  iintro ⟨%X, H⟩
  ihave H := (own_rows2 c (m.slice (planes n w 2 j h) (fun _ => rfl)) X) $$ H
  ihave H := (Entails.of_eq (pair_eq c m j h _ _)) $$ H
  icases H with ⟨H0, H1⟩
  isplitl [H0]; · iexists _; iexact H0
  iexists _; iexact H1

variable [∀ e, Nonempty (Elt F e)]

theorem pair_join (u v : (sh3 1 w).Idx → Elt F e) :
    iprop(own c (row m j (Nat.le_of_succ_le h)) u ∗ own c (row m (j + 1) h) v)
      ⊢ own c (m.slice (planes n w 2 j h) (fun _ => rfl)) (glue ![u, v]) :=
  (Entails.of_eq (pair_eq c m j h u v).symm).trans (rows2_join c (m.slice (planes n w 2 j h) (fun _ => rfl)) u v)

theorem anyPair_join :
    (iprop(anyOwn c (row m j (Nat.le_of_succ_le h)) ∗ anyOwn c (row m (j + 1) h)) : sProp 𝕄)
      ⊢ anyOwn c (m.slice (planes n w 2 j h) (fun _ => rfl)) := by
  iintro ⟨⟨%u, H0⟩, ⟨%v, H1⟩⟩
  iexists _
  iapply (pair_join c m j h u v)
  isplitl [H0]; · iexact H0
  iexact H1

end halves

section anyRows
variable (c : Dev nD) {w : Nat} {e : EltTy}

theorem any4_split (m : Memref sig .tc .vmem (sh3 4 w) e) :
    anyOwn c m ⊢ (iprop(anyOwn c (row m 0 (by decide)) ∗ anyOwn c (row m 1 (by decide)) ∗ anyOwn c (row m 2 (by decide))
      ∗ anyOwn c (row m 3 (by decide))) : sProp 𝕄) := by
  iintro ⟨%X, H⟩
  ihave H := (own_rows4 c m X) $$ H
  icases H with ⟨H0, H1, H2, H3⟩
  isplitl [H0]; · iexists _; iexact H0
  isplitl [H1]; · iexists _; iexact H1
  isplitl [H2]; · iexists _; iexact H2
  iexists _; iexact H3

theorem any2_split (m : Memref sig .tc .vmem (sh3 2 w) e) :
    anyOwn c m ⊢ (iprop(anyOwn c (row m 0 (by decide)) ∗ anyOwn c (row m 1 (by decide))) : sProp 𝕄) := by
  iintro ⟨%X, H⟩
  ihave H := (own_rows2 c m X) $$ H
  icases H with ⟨H0, H1⟩
  isplitl [H0]; · iexists _; iexact H0
  iexists _; iexact H1

theorem any1_split (m : Memref sig .tc .vmem (sh3 1 w) e) : (anyOwn c m : sProp 𝕄) ⊢ anyOwn c (row m 0 (by decide)) := by
  iintro ⟨%X, H⟩
  iexists _; iapply (own_rows1 c m X) $$ H

variable [∀ e, Nonempty (Elt F e)]

theorem any4_join (m : Memref sig .tc .vmem (sh3 4 w) e) :
    (iprop(anyOwn c (row m 0 (by decide)) ∗ anyOwn c (row m 1 (by decide)) ∗ anyOwn c (row m 2 (by decide))
      ∗ anyOwn c (row m 3 (by decide))) : sProp 𝕄) ⊢ anyOwn c m := by
  iintro ⟨⟨%X0, H0⟩, ⟨%X1, H1⟩, ⟨%X2, H2⟩, ⟨%X3, H3⟩⟩
  iexists _
  iapply (own_glue4 c m X0 X1 X2 X3)
  isplitl [H0]; · iexact H0
  isplitl [H1]; · iexact H1
  isplitl [H2]; · iexact H2
  iexact H3

theorem any2_join (m : Memref sig .tc .vmem (sh3 2 w) e) :
    (iprop(anyOwn c (row m 0 (by decide)) ∗ anyOwn c (row m 1 (by decide))) : sProp 𝕄) ⊢ anyOwn c m := by
  iintro ⟨⟨%X0, H0⟩, ⟨%X1, H1⟩⟩
  iexists _
  iapply (rows2_join c m X0 X1)
  isplitl [H0]; · iexact H0
  iexact H1

theorem any1_join (m : Memref sig .tc .vmem (sh3 1 w) e) : (anyOwn c (row m 0 (by decide)) : sProp 𝕄) ⊢ anyOwn c m := by
  iintro ⟨%X, H⟩
  iexists _; iapply (own_glue1 c m X) $$ H

end anyRows

end Cert.KernelIdeal.Hand

end
-- ==== Proof.Sched.lean ====
/-
The exchanges' protocol: the semaphores as cells, what each of them hands over, what every device
owes at each moment and the order of the waits.
-/
module

public import proofs.«01_k».proof.Proof.Own

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The contents -/

section values
variable (xv : Dev nD → S4096x512.Idx → Elt F .f32) (wv : Dev nD → S512x2048.Idx → Elt F .f32)

/-- Device `c`'s product of its rows at `off` and the slice's columns. -/
def prodAt (c : Dev nD) (S : Slice) (off : Fin 2 → Nat) (hoff : ∀ a, off a + S512x512.size a ≤ S4096x512.size a) : FVec F (sh2 S.w) .f32 :=
  prodV S.hw (fun j => xv c ((Rect.unit (s := S4096x512) off S512x512.size hoff).emb j)) (fun j => wv c ((cols S.w S.lo S.hlo).emb j))

/-- Its product of the rows of the device whose number is its own xor `k`. -/
abbrev prodX (c : Dev nD) (S : Slice) (k : Fin 8) : FVec F (sh2 S.w) .f32 := prodAt xv wv c S (k0_off1 c (BitVec.ofNat 32 k.val)) (xoff_inb c k)
/-- Its product of its own rows. -/
abbrev prodO (c : Dev nD) (S : Slice) : FVec F (sh2 S.w) .f32 := prodAt xv wv c S (k0_off2 c) (xoff2_inb c)

/-- A plane of the first parcel as sent, -/
def sent1 (c : Dev nD) (S : Slice) (k : Fin 8) : (sh3 1 S.w).Idx → Elt F .i8 := shapeCast (sh3 1 S.w) (quantV q1 (prodX xv wv c S k)) (sc31 S.hw)
/-- and as received. -/
abbrev got1 (c : Dev nD) (S : Slice) (k : Fin 8) : (sh3 1 S.w).Idx → Elt F .i8 := sent1 xv wv (peer c S.k1) S k

/-- A plane of products kept. -/
abbrev kept (S : Slice) (p : FVec F (sh2 S.w) .f32) : (sh3 1 S.w).Idx → Elt F .f32 := shapeCast (sh3 1 S.w) p (sc31 S.hw)

/-- A plane of the second parcel, of the first one's and a kept one. -/
def mid3 (S : Slice) (r : (sh3 1 S.w).Idx → Elt F .i8) (p : (sh3 1 S.w).Idx → Elt F .f32) : (sh3 1 S.w).Idx → Elt F .i8 :=
  shapeCast (sh3 1 S.w) (midV (shapeCast (sh2 S.w) r (sc13 S.hw)) (shapeCast (sh2 S.w) p (sc13 S.hw))) (sc31 S.hw)

/-- The second parcel, its two planes, as sent -/
def sent2a (c : Dev nD) (S : Slice) : (sh3 1 S.w).Idx → Elt F .i8 := mid3 S (got1 xv wv c S S.k12) (kept S (prodX xv wv c S S.k2))
def sent2b (c : Dev nD) (S : Slice) : (sh3 1 S.w).Idx → Elt F .i8 := mid3 S (got1 xv wv c S S.k123) (kept S (prodX xv wv c S S.k23))
/-- and as received. -/
abbrev got2a (c : Dev nD) (S : Slice) : (sh3 1 S.w).Idx → Elt F .i8 := sent2a xv wv (peer c S.k2) S
abbrev got2b (c : Dev nD) (S : Slice) : (sh3 1 S.w).Idx → Elt F .i8 := sent2b xv wv (peer c S.k2) S

/-- A plane of the last sum. -/
def last3 (S : Slice) (r q : (sh3 1 S.w).Idx → Elt F .i8) (p : (sh3 1 S.w).Idx → Elt F .f32) : (sh3 1 S.w).Idx → Elt F .bf16 :=
  shapeCast (sh3 1 S.w)
    (lastV (shapeCast (sh2 S.w) r (sc13 S.hw)) (shapeCast (sh2 S.w) q (sc13 S.hw)) (shapeCast (sh2 S.w) p (sc13 S.hw))) (sc31 S.hw)

/-- The half a device keeps -/
def half0 (c : Dev nD) (S : Slice) : (sh3 1 S.w).Idx → Elt F .bf16 := last3 S (got2a xv wv c S) (got1 xv wv c S S.k1) (kept S (prodO xv wv c S))
/-- and the half it sends. -/
def half1 (c : Dev nD) (S : Slice) : (sh3 1 S.w).Idx → Elt F .bf16 := last3 S (got2b xv wv c S) (got1 xv wv c S S.k13) (kept S (prodX xv wv c S S.k3))
/-- The half it receives. -/
def gotH (c : Dev nD) (S : Slice) : (sh2 S.w).Idx → Elt F .bf16 := shapeCast (sh2 S.w) (half1 xv wv (peer c S.k3) S) (sc13 S.hw)

/-- A slice's columns of the result. -/
def outS (c : Dev nD) (S : Slice) : FVec F (sh2 S.w) .f32 :=
  outV (shapeCast (sh2 S.w) (half0 xv wv c S) (sc13 S.hw)) (shapeCast (sh2 S.w) (shapeCast (sh3 1 S.w) (gotH xv wv c S) (sc31 S.hw)) (sc13 S.hw))

end values

/-! ## Cells -/

/-- The transfers: a slice's four. -/
abbrev Xf : Type := Fin 7 × Fin 4
/-- A device's cells: the barrier's, and each transfer's send (`false`) and receive (`true`). -/
abbrev CK : Type := Option (Bool × Xf)

abbrev csem : CK → SemLoc sig
  | none => .reg barS
  | some (false, t, i) => .dma (ssem t i)
  | some (true, t, i) => .dma (rsem t i)

abbrev kcell (ck : Dev nD × CK) : GSem nD τ sig := ((ck.1 : Thread nD τ), csem ck.2)
abbrev barCell (c : Dev nD) : GSem nD τ sig := kcell (c, none)
abbrev sendCell (c : Dev nD) (p : Xf) : GSem nD τ sig := kcell (c, some (false, p))
abbrev recvCell (c : Dev nD) (p : Xf) : GSem nD τ sig := kcell (c, some (true, p))

/-- Which cell a semaphore is. -/
def kindOf : SemLoc sig → Option CK
  | .reg _ => some none
  | .dma q =>
    if q.val < 3 then none
    else if q.val < 31 then some (some (false, ⟨(q.val - 3) / 4 % 7, Nat.mod_lt _ (by decide)⟩, ⟨(q.val - 3) % 4, Nat.mod_lt _ (by decide)⟩))
    else some (some (true, ⟨(q.val - 31) / 4 % 7, Nat.mod_lt _ (by decide)⟩, ⟨(q.val - 31) % 4, Nat.mod_lt _ (by decide)⟩))

theorem kindOf_csem : ∀ k : CK, kindOf (csem k) = some k := by decide

theorem csem_injective : Function.Injective csem := fun k k' h =>
  Option.some.inj ((kindOf_csem k).symm.trans ((congrArg kindOf h).trans (kindOf_csem k')))

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The three directions. -/
def mk3 : Fin 3 → Fin 8 := ![1, 3, 4]
/-- A transfer's direction. -/
def xmask : Xf → Fin 8
  | (t, 0) => (slice t).k1
  | (t, 1) => (slice t).k2
  | (t, 2) => (slice t).k1
  | (t, 3) => (slice t).k3

/-- Where a transfer goes, and whence it comes. -/
abbrev tgt (c : Dev nD) (p : Xf) : Dev nD := peer c (xmask p)

theorem peer_peer : ∀ (c : Dev nD) (k : Fin 8), peer (peer c k) k = c := by decide +kernel
theorem tgt_tgt (c : Dev nD) (p : Xf) : tgt (tgt c p) p = c := peer_peer c _

/-- A transfer's credit. -/
def amt : Xf → ℕ
  | (t, 0) => ((slice t).r8h 2 (by decide)).view.dmaCredit
  | (t, 1) => (slice t).r2.view.dmaCredit
  | (t, 2) => ((slice t).r8h 0 (by decide)).view.dmaCredit
  | (t, 3) => (slice t).r3p.view.dmaCredit

theorem amt_src : ∀ t : Fin 7, ((slice t).s1h 2 (by decide)).view.dmaCredit = amt (t, 0) ∧ (slice t).f1.view.dmaCredit = amt (t, 1)
    ∧ ((slice t).s1h 0 (by decide)).view.dmaCredit = amt (t, 2) ∧ (slice t).g2p.view.dmaCredit = amt (t, 3) := by
  intro t; fin_cases t <;> exact ⟨rfl, rfl, rfl, rfl⟩

theorem pos_sh3 {n w : Nat} (hn : 0 < n) (hw : Wide w) : 0 < (sh3 n w).numel :=
  Shape.numel_pos fun a => by
    fin_cases a
    · exact hn
    · exact Nat.succ_pos _
    · rcases hw with rfl | rfl | rfl <;> exact Nat.succ_pos _

theorem amt_pos : ∀ p : Xf, 0 < amt p
  | (t, 0) => View.dmaCredit_pos _ (pos_sh3 (by decide) (slice t).hw)
  | (t, 1) => View.dmaCredit_pos _ (pos_sh3 (by decide) (slice t).hw)
  | (t, 2) => View.dmaCredit_pos _ (pos_sh3 (by decide) (slice t).hw)
  | (t, 3) => View.dmaCredit_pos _ (pos2 (slice t).hw)

/-! ## The schedule -/

section schedule
variable (xv : Dev nD → S4096x512.Idx → Elt F .f32) (wv : Dev nD → S512x2048.Idx → Elt F .f32)

/-- What a transfer writes: device `c`'s landing memory, holding anything; -/
def landPay (c : Dev nD) : Xf → sProp 𝕄
  | (t, 0) => anyOwn c ((slice t).r8h 2 (by decide))
  | (t, 1) => anyOwn c (slice t).r2
  | (t, 2) => anyOwn c ((slice t).r8h 0 (by decide))
  | (t, 3) => anyOwn c (slice t).r3p

/-- what it reads, back when it has been read; -/
def srcPay (c : Dev nD) : Xf → sProp 𝕄
  | (t, 0) => anyOwn c ((slice t).s1h 2 (by decide))
  | (t, 1) => anyOwn c (slice t).f1
  | (t, 2) => anyOwn c ((slice t).s1h 0 (by decide))
  | (t, 3) => anyOwn c (slice t).g2p

/-- and the landing memory with what has landed. -/
def recvPay (c : Dev nD) : Xf → sProp 𝕄
  | (t, 0) => own c ((slice t).r8h 2 (by decide)) (glue ![got1 xv wv c (slice t) (slice t).k12, got1 xv wv c (slice t) (slice t).k123])
  | (t, 1) => own c (slice t).r2 (glue ![got2a xv wv c (slice t), got2b xv wv c (slice t)])
  | (t, 2) => own c ((slice t).r8h 0 (by decide)) (glue ![got1 xv wv c (slice t) (slice t).k1, got1 xv wv c (slice t) (slice t).k13])
  | (t, 3) => own c (slice t).r3p (gotH xv wv c (slice t))

/-- What the signal along direction `d` hands device `c`: the landing memories it will write there. -/
def barPay (c : Dev nD) (d : Fin 3) : sProp 𝕄 :=
  bigSep (Finset.univ.filter fun p : Xf => xmask p = mk3 d) fun p => landPay (F := F) (tgt c p) p

instance landPay_storable (c : Dev nD) (p : Xf) : BI.Storable (upEmb : UEmb _ 𝕄) (landPay (F := F) c p) := by
  obtain ⟨t, i⟩ := p
  fin_cases i <;> (show BI.Storable _ (anyOwn c _)) <;> unfold anyOwn own <;> infer_instance
instance srcPay_storable (c : Dev nD) (p : Xf) : BI.Storable (upEmb : UEmb _ 𝕄) (srcPay (F := F) c p) := by
  obtain ⟨t, i⟩ := p
  fin_cases i <;> (show BI.Storable _ (anyOwn c _)) <;> unfold anyOwn own <;> infer_instance
instance recvPay_storable (c : Dev nD) (p : Xf) : BI.Storable (upEmb : UEmb _ 𝕄) (recvPay xv wv c p) := by
  obtain ⟨t, i⟩ := p
  fin_cases i <;> (show BI.Storable _ (own c _ _)) <;> unfold own <;> infer_instance
instance barPay_storable (c : Dev nD) (d : Fin 3) : BI.Storable (upEmb : UEmb _ 𝕄) (barPay (F := F) c d) := by
  unfold barPay; infer_instance

/-- A semaphore's payload, by its kind. -/
def payOf (c : Dev nD) (d : Fin 3) : Option CK → sProp 𝕄
  | some none => barPay c d
  | some (some (false, p)) => srcPay c p
  | some (some (true, p)) => recvPay xv wv c p
  | none => iprop(emp)
def amtOf : Option CK → ℕ
  | some (some (_, p)) => amt p
  | _ => 1
def dutiesOf : Option CK → Finset (Fin 3)
  | some none => Finset.univ
  | some (some _) => {0}
  | none => ∅

/-- One round. A barrier cell has a duty for each direction, of one unit; a transfer's cells one duty each, of its credit. -/
def rd : Rounds.Schedule (GSem nD τ sig) (Fin 3) 𝕄 where
  duties g r := if r = 0 ∧ g.1.2 = .tc then dutiesOf (kindOf g.2) else ∅
  unitless _ := False
  amount g _ _ := amtOf (kindOf g.2)
  payload g _ d := payOf xv wv g.1.1 d (kindOf g.2)
  amount_pos g _ _ _ := by
    rcases kindOf g.2 with _ | _ | ⟨_, p⟩
    · exact Nat.one_pos
    · exact Nat.one_pos
    · exact amt_pos p

instance rd_payload_storable (g : GSem nD τ sig) (r : ℕ) (d : Fin 3) :
    BI.Storable (upEmb : UEmb _ 𝕄) ((rd xv wv).payload g r d) := by
  show BI.Storable upEmb (payOf xv wv g.1.1 d (kindOf g.2))
  rcases kindOf g.2 with _ | _ | ⟨_ | _, p⟩ <;> unfold payOf <;> infer_instance

theorem rd_duties (c : Dev nD) (k : CK) : (rd xv wv).duties (kcell (c, k)) 0 = dutiesOf (some k) := by
  dsimp only [rd]
  rw [if_pos ⟨rfl, rfl⟩, kindOf_csem]
theorem rd_later (g : GSem nD τ sig) : ∀ r, 1 ≤ r → (rd xv wv).duties g r = ∅ := fun r hr => if_neg fun h => by omega
theorem rd_amount (c : Dev nD) (k : CK) (d : Fin 3) : (rd xv wv).amount (kcell (c, k)) 0 d = amtOf (some k) := by
  show amtOf (kindOf (csem k)) = _; rw [kindOf_csem]
theorem rd_payload (c : Dev nD) (k : CK) (d : Fin 3) : (rd xv wv).payload (kcell (c, k)) 0 d = payOf xv wv c d (some k) := by
  show payOf xv wv c d (kindOf (csem k)) = _; rw [kindOf_csem]

theorem expect_bar (c : Dev nD) : (rd xv wv).expect (barCell c) 0 = 3 := by
  unfold Schedule.expect Schedule.amountOf
  rw [rd_duties, Finset.sum_congr rfl fun d _ => rd_amount xv wv c none d]; rfl
theorem expect_xf (c : Dev nD) (b : Bool) (p : Xf) : (rd xv wv).expect (kcell (c, some (b, p))) 0 = amt p := by
  unfold Schedule.expect Schedule.amountOf
  rw [rd_duties]; exact (Finset.sum_singleton _ _).trans (rd_amount xv wv c (some (b, p)) 0)

/-- What a wait on a transfer's cell brings. -/
theorem rest_xf (c : Dev nD) (b : Bool) (p : Xf) :
    bigSep ((rd xv wv).duties (kcell (c, some (b, p))) 0 \ ∅) (fun d => (rd xv wv).payload (kcell (c, some (b, p))) 0 d)
      = payOf xv wv c 0 (some (some (b, p))) := by
  rw [Finset.sdiff_empty, rd_duties]
  exact Eq.trans bigSep_singleton (rd_payload xv wv c (some (b, p)) 0)

/-- A transfer's direction, by its number. -/
def xdir (p : Xf) : Fin 3 := if xmask p = 1 then 0 else if xmask p = 3 then 1 else 2
theorem mask_dir : ∀ p : Xf, xmask p = mk3 (xdir p) := by decide
theorem dir_onto : (Finset.univ : Finset Xf).image xdir = Finset.univ := by decide
theorem mk3_injective : Function.Injective mk3 := by decide

/-- What the barrier's wait brings: every landing memory this device writes. -/
theorem rest_bar (c : Dev nD) :
    bigSep ((rd xv wv).duties (barCell c) 0 \ ∅) (fun d => (rd xv wv).payload (barCell c) 0 d)
      = bigSep Finset.univ fun p : Xf => landPay (F := F) (tgt c p) p := by
  rw [Finset.sdiff_empty, rd_duties]
  refine (bigSep_congr fun d _ => rd_payload xv wv c none d).trans ?_
  have hfil : ∀ d : Fin 3, (Finset.univ.filter fun p : Xf => xmask p = mk3 d) = Finset.univ.filter fun p : Xf => xdir p = d := fun d =>
    Finset.filter_congr fun p _ => by rw [mask_dir p]; exact mk3_injective.eq_iff
  show bigSep (Finset.univ : Finset (Fin 3)) (fun d : Fin 3 => bigSep (Finset.univ.filter fun p : Xf => xmask p = mk3 d) fun p => landPay (F := F) (tgt c p) p) = _
  simp only [hfil]
  rw [BI.bigSep_fiberwise Finset.univ xdir fun p : Xf => landPay (F := F) (tgt c p) p, dir_onto]

end schedule

/-! ## Debts and levels -/

/-- What a device owes that has the transfers `l` still to send. -/
def debt (c : Dev nD) : List Xf → CellTallies nD τ sig Unit
  | [] => 0
  | p :: l => debt c l + tallyAt (recvCell (tgt c p) p) () (amt p)

/-- The transfers in the order they are sent. -/
def sends : List Xf := ord1.map (·, 0) ++ (ord1.map (·, 2) ++ (ord2.map (·, 1) ++ ord3.map (·, 3)))

/-- What it owes at launch. -/
def O₀ (c : Dev nD) : CellTallies nD τ sig Unit :=
  debt c sends + tallyAt (barCell (peer c 4)) () 1 + tallyAt (barCell (peer c 3)) () 1 + tallyAt (barCell (peer c 1)) () 1

def rlv : Xf → ℕ
  | (_, 0) => 2
  | (_, 1) => 3
  | (_, 2) => 2
  | (_, 3) => 4
def lvOf : Option CK → ℕ
  | some none => 1
  | some (some (true, p)) => rlv p
  | _ => 0

def L (g : GSem nD τ sig) : Finset Unit := if g.1.2 = .tc then {()} else ∅
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × CK) (u : Unit) : lv (kcell ck) u = lvOf (some ck.2) := by unfold lv; rw [kindOf_csem]

theorem tally_pos {g g' : GSem nD τ sig} {u u' : Unit} {k : ℕ} (h : 0 < (tallyAt g u k : CellTallies nD τ sig Unit) g' u') : g' = g := by
  rw [tallyAt_apply] at h
  by_contra hn
  rw [if_neg fun h' => hn h'.1] at h
  exact Nat.lt_irrefl 0 h
theorem add_pos_or {T T' : CellTallies nD τ sig Unit} {g : GSem nD τ sig} {u : Unit} (h : 0 < (T + T') g u) : 0 < T g u ∨ 0 < T' g u := by
  rw [Pi.add_apply, Finsupp.add_apply] at h; omega

theorem debt_pos {c : Dev nD} {g : GSem nD τ sig} {u : Unit} : ∀ {l : List Xf}, 0 < debt c l g u → ∃ p ∈ l, g = recvCell (tgt c p) p
  | [], h => absurd h (Nat.lt_irrefl 0)
  | p :: l, h => by
    rcases add_pos_or h with h | h
    · obtain ⟨q, hq, e⟩ := debt_pos h
      exact ⟨q, List.mem_cons_of_mem _ hq, e⟩
    · exact ⟨p, List.mem_cons_self, tally_pos h⟩

theorem O₀_pos {c : Dev nD} {g : GSem nD τ sig} {u : Unit} (h : 0 < O₀ c g u) : (∃ ck, g = kcell ck) ∧ 0 < lv g u := by
  have hb : ∀ d : Dev nD, g = barCell d → (∃ ck, g = kcell ck) ∧ 0 < lv g u := fun d e => ⟨⟨_, e⟩, by
    rw [e, lv_kcell]; exact Nat.one_pos⟩
  unfold O₀ at h
  rcases add_pos_or h with h | h
  · rcases add_pos_or h with h | h
    · rcases add_pos_or h with h | h
      · obtain ⟨p, _, e⟩ := debt_pos h
        refine ⟨⟨_, e⟩, ?_⟩
        rw [e, lv_kcell]
        obtain ⟨t, i⟩ := p
        fin_cases i <;> exact Nat.succ_pos _
      · exact hb _ (tally_pos h)
    · exact hb _ (tally_pos h)
  · exact hb _ (tally_pos h)

/-- A wait below everything owed. -/
theorem mayWait_debt (c : Dev nD) (k : CK) (l : List Xf) (h : ∀ p ∈ l, lvOf (some k) < rlv p) :
    (levAts L lv : sProp 𝕄) ⊢ MayWait (c : Thread nD τ) (csem k) () (debt c l) :=
  MayOwe.of_cut (L := L) (lev := lv) (lvOf (some k)) (fun p hp => by rw [Finset.mem_singleton.mp hp, L_tc]; exact Finset.mem_singleton_self _)
    (fun g u hg => by
      obtain ⟨p, _, rfl⟩ := debt_pos hg
      exact Finset.mem_singleton_self _)
    (fun p hp => by rw [Finset.mem_singleton.mp hp]; exact le_of_eq (lv_kcell (c, k) ()))
    (fun g u hg => by
      obtain ⟨p, hp, rfl⟩ := debt_pos hg
      rw [lv_kcell]; exact h p hp)

/-- A staging wait. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨⟨ck, rfl⟩, _⟩ := O₀_pos hg; exact Finset.mem_singleton_self _)
      (fun p hp => by
        rw [Finset.mem_singleton.mp hp]
        show lvOf (kindOf (.dma q)) ≤ 0
        rw [hq]; exact Nat.le_refl 0)
      (fun g u hg => (O₀_pos hg).2)
  · rw [MayWait_zero]; iintro -; iempintro

end Cert.KernelIdeal.Hand

end
-- ==== Proof.Phases.lean ====
/-
Each piece of the body, executed: what it needs and what it leaves.
-/
module

public import proofs.«01_k».proof.Proof.Sched

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance elt_nonempty : ∀ e, Nonempty (Elt F e) := fun e => by
  cases e <;> first | exact ⟨(0#_ : BitVec _)⟩ | exact ⟨FloatOps.ofBits _ 0⟩

theorem WP_bind (c : Dev nD) {α β : Type} (p : PrK F α) (k : α → PrK F β) (Q : β → sProp 𝕄) :
    WP c (p >>= k) Q = WP c p fun a => WP c (k a) Q := wp_bind _ _ _ p k Q

theorem WP_pure (c : Dev nD) {α : Type} (a : α) (Q : α → sProp 𝕄) : Q a ⊢ WP c (pure a : PrK F α) Q := fupd_intro

section
variable (xv : Dev nD → S4096x512.Idx → Elt F .f32) (wv : Dev nD → S512x2048.Idx → Elt F .f32)
variable (K : Dev nD × CK → ℕ)

/-- What every device knows throughout: the cells' invariants, that each is at its round, and the levels. -/
def ctx : sProp 𝕄 :=
  iprop((bigSep Finset.univ fun ck : Dev nD × CK => cellInv ER (rd xv wv) (K ck) (kcell ck))
    ∗ (bigSep Finset.univ fun ck : Dev nD × CK => reached ER (kcell ck) 0) ∗ levAts L lv)

instance ctx_persistent : BI.Persistent (ctx xv wv K) := by unfold ctx; infer_instance

theorem ctx_inv (ck : Dev nD × CK) : ctx xv wv K ⊢ cellInv ER (rd xv wv) (K ck) (kcell ck) := by
  have h : (bigSep Finset.univ fun ck : Dev nD × CK => (cellInv ER (rd xv wv) (K ck) (kcell ck) : sProp 𝕄)) ⊢ cellInv ER (rd xv wv) (K ck) (kcell ck) :=
    bigSep_elim (Finset.mem_univ ck)
  unfold ctx; iintro ⟨#H, -, -⟩
  iapply h; iexact H
theorem ctx_reached (ck : Dev nD × CK) : ctx xv wv K ⊢ reached ER (kcell ck) 0 := by
  have h : (bigSep Finset.univ fun ck : Dev nD × CK => (reached ER (kcell ck) 0 : sProp 𝕄)) ⊢ reached ER (kcell ck) 0 := bigSep_elim (Finset.mem_univ ck)
  unfold ctx; iintro ⟨-, #H, -⟩
  iapply h; iexact H
theorem ctx_lev : ctx xv wv K ⊢ (levAts L lv : sProp 𝕄) := by
  unfold ctx; iintro ⟨-, -, #H⟩; iexact H

/-- It owes `O`, whatever it has waited for. -/
abbrev owesAny (c : Dev nD) (O : CellTallies nD τ sig Unit) : sProp 𝕄 := iprop(∃ W, owes (c : Thread nD τ) O W)

/-! ## A transfer and a wait -/

section xfer
variable (c : Dev nD) (t : Fin 7) (i : Fin 4) {sh : Shape} {e : EltTy}

/-- The tokens of a transfer's two duties. -/
def toks (p : Xf) : sProp 𝕄 := iprop(dutyTok ER (sendCell c p) 0 0 ∗ dutyTok ER (recvCell (tgt c p) p) 0 0)
/-- The credit for a transfer's send. -/
abbrev credS (p : Xf) : sProp 𝕄 := cred (tallyAt (sendCell c p) () (amt p))
abbrev credR (p : Xf) : sProp 𝕄 := cred (tallyAt (recvCell c p) () (amt p))
abbrev pos0 (k : CK) : sProp 𝕄 := atPos ER (kcell (c, k)) 0 ∅ 0
abbrev pos1 (k : CK) : sProp 𝕄 := atPos ER (kcell (c, k)) 1 ∅ 0

theorem own_send (n : Dev nD) (hn : n = tgt c (t, i)) (src : Memref sig .tc .vmem sh e) (dst : Memref sig .tc .vmem sh e)
    {hsc : dst.view.ref.isScScratch = false} {hsrc : src.view.WordExact} {hdst : dst.view.WordExact}
    {hsem : DmaTarget.Typed .vmem (.dma (rsem t i)) (.remote (Dev.tc n : Thread nD τ) dst (.dma (ssem t i)) hsc)}
    (X : sh.Idx → Elt F e) (l : List Xf)
    (hpS : own c src X ⊢ srcPay (F := F) c (t, i)) (hpR : own (tgt c (t, i)) dst X ⊢ recvPay xv wv (tgt c (t, i)) (t, i))
    (hA : dst.view.dmaCredit = amt (t, i)) {Q : PUnit → sProp 𝕄} :
    iprop(ctx xv wv K ∗ own c src X ∗ anyOwn (tgt c (t, i)) dst ∗ toks c (t, i) ∗ owesAny c (debt c ((t, i) :: l)))
      ⊢ iprop(((credS c (t, i) ∗ owesAny c (debt c l)) -∗ Q ⟨⟩)
        -∗ WP c (Prog.lift (.enqueueDma src (.remote (Dev.tc n : Thread nD τ) dst (.dma (ssem t i)) hsc) (.dma (rsem t i)) hsrc hdst hsem)) Q) := by
  subst hn
  unfold toks anyOwn own owns
  iintro ⟨#Hc, ⟨%f, %hf, Hs⟩, ⟨%Y, %g, %hg, Hd⟩, ⟨HtS, HtR⟩, ⟨%W, HO⟩⟩ Hk
  iapply (Rounds.wp_send_pointsTo 𝒱₀ ER (rd xv wv) (c : Thread nD τ) none (κ₁ := K (c, some (false, t, i))) (κ₂ := K (tgt c (t, i), some (true, t, i)))
      (r₁ := 0) (r₂ := 0) (d₁ := 0) (d₂ := 0) (c' := (tgt c (t, i) : Thread nD τ))
      (sS := .dma (ssem t i)) (sem := .dma (rsem t i)) (sp' := .vmem) (src := src) (dst := dst) (fs := f) (fd := g)
      (by rw [show ((c : Thread nD τ), SemLoc.dma (ssem t i)) = kcell (c, some (false, t, i)) from rfl, rd_duties]; exact Finset.mem_singleton_self _)
      (by rw [show ((tgt c (t, i) : Thread nD τ), SemLoc.dma (rsem t i)) = kcell (tgt c (t, i), some (true, t, i)) from rfl, rd_duties]
          exact Finset.mem_singleton_self _)
      () () (amt (t, i)) hA (rd_amount xv wv c (some (false, t, i)) 0) (rd_amount xv wv (tgt c (t, i)) (some (true, t, i)) 0)
      (debt c l) rfl (W := W)
      (by
        refine BIBase.Entails.trans ?_ (hpS.trans (Entails.of_eq (rd_payload xv wv c (some (false, t, i)) 0).symm))
        unfold own owns
        iintro H
        iexists f
        isplitr; · ipureintro; exact hf
        iexact H)
      (by
        refine BIBase.Entails.trans ?_ (hpR.trans (Entails.of_eq (rd_payload xv wv (tgt c (t, i)) (some (true, t, i)) 0).symm))
        unfold own owns
        iintro H
        iexists (dst.view.write (Elt F) g (src.view.read (Elt F) f) Finset.univ)
        isplitr; · ipureintro; exact (View.read_write_univ _ _).trans hf
        iexact H)) $$ [Hs Hd HO HtS HtR]
  · isplitr; · iapply (ctx_inv xv wv K (c, some (false, t, i))); iexact Hc
    isplitr; · iapply (ctx_inv xv wv K (tgt c (t, i), some (true, t, i))); iexact Hc
    isplitl [Hs]; · iexact Hs
    isplitl [Hd]; · iexact Hd
    isplitl [HO]; · iexact HO
    isplitl [HtS]; · iexact HtS
    isplitr; · iapply (ctx_reached xv wv K (c, some (false, t, i))); iexact Hc
    isplitl [HtR]; · iexact HtR
    iapply (ctx_reached xv wv K (tgt c (t, i), some (true, t, i))); iexact Hc
  iintro ⟨HcS, HO⟩
  rw [wp_ret]
  imodintro
  iapply Hk
  isplitl [HcS]; · iexact HcS
  iexists W; iexact HO

theorem own_wait (b : Bool) (sm : DmaSem sig) (hsm : csem (some (b, t, i)) = .dma sm) {sh' : Shape} {e' : EltTy}
    (src : Memref sig .tc .vmem sh' e') (dst : Memref sig .tc .vmem sh e) {hsrc : src.view.WordExact} {hdst : dst.view.WordExact}
    (hA : dst.view.dmaCredit = amt (t, i)) (l : List Xf) (hl : ∀ p ∈ l, lvOf (some (some (b, t, i))) < rlv p) {Q : PUnit → sProp 𝕄} :
    iprop(ctx xv wv K ∗ cred (tallyAt (kcell (c, some (b, t, i))) () (amt (t, i))) ∗ pos0 c (some (b, t, i)) ∗ owesAny c (debt c l))
      ⊢ iprop(((payOf xv wv c 0 (some (some (b, t, i))) ∗ pos1 c (some (b, t, i)) ∗ owesAny c (debt c l)) -∗ Q ⟨⟩)
        -∗ WP c (Prog.lift (.waitDma2 sm src dst hsrc hdst)) Q) := by
  iintro ⟨#Hc, Hcr, Hat, ⟨%W, HO⟩⟩ Hk
  iapply (Rounds.wp_wait_rest_token 𝒱₀ ER (rd xv wv) (c : Thread nD τ) none (κ := K (c, some (b, t, i))) (sm := csem (some (b, t, i)))
      (k' := amt (t, i))
      (fun K' => (wpE_waitDma2_eq 𝒱₀ (c : Thread nD τ) none Set.univ K').trans (by rw [hsm, hA])) (Set.mem_univ _) () (O := debt c l) (W := W)
      (R := 0) (m := 0) (T := ∅)
      ((Nat.zero_add _).trans (expect_xf xv wv c b (t, i)).symm)) $$ [Hcr HO Hat]
  · isplitr; · iapply (ctx_inv xv wv K (c, some (b, t, i))); iexact Hc
    isplitl [Hcr]; · iexact Hcr
    isplitl [HO]; · iexact HO
    isplitr; · iapply (mayWait_debt c (some (b, t, i)) l hl); iapply (ctx_lev xv wv K); iexact Hc
    iexact Hat
  iintro ⟨HO, Hat, -, Hpay⟩
  ihave Hp := (Entails.of_eq (rest_xf xv wv c b (t, i))) $$ Hpay
  rw [wp_ret]
  imodintro
  iapply Hk
  isplitl [Hp]; · iexact Hp
  isplitl [Hat]; · iexact Hat
  iexists _; iexact HO

end xfer

/-! ## Products and planes -/

section pieces
variable (c : Dev nD) (a0 : Memref sig .tc .vmem S4096x512 .f32) (a1 : Memref sig .tc .vmem S512x2048 .f32)

/-- The operands, held. -/
abbrev ops : sProp 𝕄 := iprop(own c a0 (xv c) ∗ own c a1 (wv c))

theorem own_prod (S : Slice) (off : Fin 2 → Nat) (hoff : ∀ a, off a + S512x512.size a ≤ S4096x512.size a)
    {Q : FVec F (sh2 S.w) .f32 → sProp 𝕄} :
    ops xv wv c a0 a1 ⊢ iprop((ops xv wv c a0 a1 -∗ Q (prodAt xv wv c S off hoff)) -∗ WP c (prodK a0 a1 S off hoff) Q) := by
  unfold prodK
  iintro ⟨H0, H1⟩ Hk
  rw [WP_bind]
  iapply (own_load c a0 _ (xv c)) $$ H0; iintro H0
  rw [WP_bind]
  iapply (own_load c a1 _ (wv c)) $$ H1; iintro H1
  iapply (WP_pure c (prodAt xv wv c S off hoff) Q)
  iapply Hk
  isplitl [H0]; · iexact H0
  iexact H1

theorem own_get {e : EltTy} {n : Nat} {S : Slice} (m : Memref sig .tc .vmem (sh3 n S.w) e) (j : Nat) (h : j + 1 ≤ n)
    (X : (sh3 1 S.w).Idx → Elt F e) {Q : Vec F (sh3 1 S.w) e → sProp 𝕄} :
    own c (row m j h) X ⊢ iprop((own c (row m j h) X -∗ Q X) -∗ WP c (getK (F := F) m j h) Q) :=
  part_load c m (planes n S.w 1 j h) (fun _ => rfl) X

theorem own_put {e : EltTy} {n : Nat} {S : Slice} (m : Memref sig .tc .vmem (sh3 n S.w) e) (j : Nat) (h : j + 1 ≤ n)
    (hst : (m.access (planes n S.w 1 j h)).Stores Finset.univ) (v : Vec F (sh3 1 S.w) e) {Q : PUnit → sProp 𝕄} :
    anyOwn c (row m j h) ⊢ iprop((own c (row m j h) v -∗ Q ⟨⟩) -∗ WP c (putK (F := F) m j h hst v) Q) := by
  unfold putK
  iintro ⟨%X, H⟩ Hk
  rw [WP_bind]
  iapply (own_get c m j h X) $$ H; iintro H
  iapply (part_store c m (planes n S.w 1 j h) (fun _ => rfl) X v) $$ H
  iexact Hk

theorem own_quant (S : Slice) (k : Fin 8) (j : Nat) (h : j + 1 ≤ 4) {Q : PUnit → sProp 𝕄} :
    iprop(ops xv wv c a0 a1 ∗ anyOwn c (row S.s1 j h))
      ⊢ iprop(((ops xv wv c a0 a1 ∗ own c (row S.s1 j h) (sent1 xv wv c S k)) -∗ Q ⟨⟩) -∗ WP c (quantK a0 a1 S c k j h) Q) := by
  unfold quantK
  iintro ⟨H, Hr⟩ Hk
  rw [WP_bind]
  iapply (own_prod xv wv c a0 a1 S _ _) $$ H; iintro H
  iapply (own_put c S.s1 j h _ _) $$ Hr; iintro Hr
  iapply Hk
  isplitl [H]; · iexact H
  iexact Hr

theorem own_keep (S : Slice) (off : Fin 2 → Nat) (hoff : ∀ a, off a + S512x512.size a ≤ S4096x512.size a) (j : Nat) (h : j + 1 ≤ 4)
    {Q : PUnit → sProp 𝕄} :
    iprop(ops xv wv c a0 a1 ∗ anyOwn c (row S.pb j h))
      ⊢ iprop(((ops xv wv c a0 a1 ∗ own c (row S.pb j h) (kept S (prodAt xv wv c S off hoff))) -∗ Q ⟨⟩)
        -∗ WP c (keepK a0 a1 S off hoff j h) Q) := by
  unfold keepK
  iintro ⟨H, Hr⟩ Hk
  rw [WP_bind]
  iapply (own_prod xv wv c a0 a1 S _ _) $$ H; iintro H
  iapply (own_put c S.pb j h _ _) $$ Hr; iintro Hr
  iapply Hk
  isplitl [H]; · iexact H
  iexact Hr

theorem own_mid (S : Slice) (j : Nat) (h : j + 1 ≤ 2) (r : (sh3 1 S.w).Idx → Elt F .i8) (p : (sh3 1 S.w).Idx → Elt F .f32) {Q : PUnit → sProp 𝕄} :
    iprop(own c (row S.r8 (j + 2) (by omega)) r ∗ own c (row S.pb j (by omega)) p ∗ anyOwn c (row S.f1 j h))
      ⊢ iprop(((own c (row S.r8 (j + 2) (by omega)) r ∗ own c (row S.pb j (by omega)) p ∗ own c (row S.f1 j h) (mid3 S r p)) -∗ Q ⟨⟩)
        -∗ WP c (midK (F := F) S j h) Q) := by
  unfold midK
  iintro ⟨Hr, Hp, Hf⟩ Hk
  rw [WP_bind]
  iapply (own_get c S.r8 (j + 2) _ r) $$ Hr; iintro Hr
  rw [WP_bind]
  iapply (own_get c S.pb j _ p) $$ Hp; iintro Hp
  iapply (own_put c S.f1 j h _ _) $$ Hf; iintro Hf
  iapply Hk
  isplitl [Hr]; · iexact Hr
  isplitl [Hp]; · iexact Hp
  iexact Hf

theorem own_last (S : Slice) (j : Nat) (h : j + 1 ≤ 2) (r q : (sh3 1 S.w).Idx → Elt F .i8) (p : (sh3 1 S.w).Idx → Elt F .f32)
    {Q : PUnit → sProp 𝕄} :
    iprop(own c (row S.r2 j h) r ∗ own c (row S.r8 j (by omega)) q ∗ own c (row S.pb (j + 2) (by omega)) p ∗ anyOwn c (row S.g2 j h))
      ⊢ iprop(((own c (row S.r2 j h) r ∗ own c (row S.r8 j (by omega)) q ∗ own c (row S.pb (j + 2) (by omega)) p
          ∗ own c (row S.g2 j h) (last3 S r q p)) -∗ Q ⟨⟩)
        -∗ WP c (lastK (F := F) S j h) Q) := by
  unfold lastK
  iintro ⟨Hr, Hq, Hp, Hg⟩ Hk
  rw [WP_bind]
  iapply (own_get c S.r2 j h r) $$ Hr; iintro Hr
  rw [WP_bind]
  iapply (own_get c S.r8 j _ q) $$ Hq; iintro Hq
  rw [WP_bind]
  iapply (own_get c S.pb (j + 2) _ p) $$ Hp; iintro Hp
  iapply (own_put c S.g2 j h _ _) $$ Hg; iintro Hg
  iapply Hk
  isplitl [Hr]; · iexact Hr
  isplitl [Hq]; · iexact Hq
  isplitl [Hp]; · iexact Hp
  iexact Hg

end pieces

/-! ## A piece for every slice -/

/-- A piece repeated over slices: what is carried along, and what each visit takes and leaves. -/
theorem own_for (c : Dev nD) (b : Fin 7 → PrK F PUnit) (G : List (Fin 7) → sProp 𝕄) (A B : Fin 7 → sProp 𝕄)
    (h : ∀ t l, iprop(G (t :: l) ∗ A t) ⊢ WP c (b t) fun _ => iprop(G l ∗ B t)) :
    ∀ l : List (Fin 7), l.Nodup → iprop(G l ∗ bigSep l.toFinset A) ⊢ WP c (forL b l) fun _ => iprop(G [] ∗ bigSep l.toFinset B)
  | [], _ => by
    refine BIBase.Entails.trans ?_ (WP_pure c _ _)
    exact .rfl
  | t :: l, hn => by
    have ht : t ∉ l.toFinset := fun h' => (List.nodup_cons.mp hn).1 (List.mem_toFinset.mp h')
    have e : ∀ Φ : Fin 7 → sProp 𝕄, bigSep (insert t l.toFinset) Φ = iprop(Φ t ∗ bigSep l.toFinset Φ) := fun Φ => bigSep_insert ht
    rw [List.toFinset_cons, e, e]
    show _ ⊢ WP c (b t >>= fun _ => forL b l) _
    rw [WP_bind]
    iintro ⟨HG, HA, HAs⟩
    iapply (wp_wand _ _ _ (p := b t) (Q := fun _ => iprop(G l ∗ B t))) $$ [HG HA]
    · iapply (h t l)
      isplitl [HG]; · iexact HG
      iexact HA
    iintro %_ ⟨HG, HB⟩
    iapply (wp_wand _ _ _ (p := forL b l) (Q := fun _ => iprop(G [] ∗ bigSep l.toFinset B))) $$ [HG HAs]
    · iapply (own_for c b G A B h l (List.nodup_cons.mp hn).2)
      isplitl [HG]; · iexact HG
      iexact HAs
    iintro %_ ⟨HG, HBs⟩
    isplitl [HG]; · iexact HG
    isplitl [HB]; · iexact HB
    iexact HBs

/-- The same over all seven, followed by the rest. -/
theorem own_all (c : Dev nD) (b : Fin 7 → PrK F PUnit) (G : List (Fin 7) → sProp 𝕄) (A B : Fin 7 → sProp 𝕄)
    (h : ∀ t l, iprop(G (t :: l) ∗ A t) ⊢ WP c (b t) fun _ => iprop(G l ∗ B t))
    (l : List (Fin 7)) (hn : l.Nodup) (hl : l.toFinset = Finset.univ) {Q : PUnit → sProp 𝕄} :
    iprop(G l ∗ bigSep Finset.univ A) ⊢ iprop(((G [] ∗ bigSep Finset.univ B) -∗ Q ⟨⟩) -∗ WP c (forL b l) Q) := by
  iintro H Hk
  iapply (wp_wand _ _ _ (p := forL b l) (Q := fun _ => iprop(G [] ∗ bigSep Finset.univ B))) $$ [H]
  · have := own_for c b G A B h l hn
    rw [hl] at this
    iapply this; iexact H
  iintro %_ H
  iapply Hk; iexact H

end

end Cert.KernelIdeal.Hand

end
-- ==== Proof.Visits.lean ====
/-
A visit to a slice at each stage of the exchange.
-/
module

public import proofs.«01_k».proof.Proof.Phases

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (xv : Dev nD → S4096x512.Idx → Elt F .f32) (wv : Dev nD → S512x2048.Idx → Elt F .f32)
variable (K : Dev nD × CK → ℕ) (c : Dev nD)
variable (a0 : Memref sig .tc .vmem S4096x512 .f32) (a1 a2 : Memref sig .tc .vmem S512x2048 .f32)

/-- What a transfer needs besides its source: where it writes, and its duties' tokens. -/
def kit (p : Xf) : sProp 𝕄 := iprop(landPay (F := F) (tgt c p) p ∗ toks c p)

/-- Carried along while the transfers `l`, then `r`, are still to be sent. -/
def run (i : Fin 4) (r : List Xf) (l : List (Fin 7)) : sProp 𝕄 := iprop(ctx xv wv K ∗ owesAny c (debt c (l.map (·, i) ++ r)))

/-! ## The first exchange -/

def inA (t : Fin 7) : sProp 𝕄 :=
  iprop(anyOwn c (row (slice t).s1 2 (by decide)) ∗ anyOwn c (row (slice t).s1 3 (by decide)) ∗ kit (F := F) c (t, 0))
def inB (t : Fin 7) : sProp 𝕄 :=
  iprop(anyOwn c (row (slice t).s1 0 (by decide)) ∗ anyOwn c (row (slice t).s1 1 (by decide)) ∗ kit (F := F) c (t, 2))

theorem any_intro {sh : Shape} {e : EltTy} (m : Memref sig .tc .vmem sh e) (X : sh.Idx → Elt F e) : own c m X ⊢ (anyOwn c m : sProp 𝕄) := by
  iintro H; iexists X; iexact H

/-- Two planes of the first parcel made and sent. -/
theorem send_half (t : Fin 7) (i : Fin 4) (j : Nat) (h : j + 2 ≤ 4) (k k' : Fin 8) (hm : xmask (t, i) = (slice t).k1)
    (hland : ∀ d, landPay (F := F) d (t, i) = anyOwn d ((slice t).r8h j h)) (hsrc : ∀ d, srcPay (F := F) d (t, i) = anyOwn d ((slice t).s1h j h))
    (hrecv : ∀ d, recvPay xv wv d (t, i) = own d ((slice t).r8h j h) (glue ![got1 xv wv d (slice t) k, got1 xv wv d (slice t) k']))
    (hA : ((slice t).r8h j h).view.dmaCredit = amt (t, i)) (r : List Xf) (l : List (Fin 7)) :
    iprop((run xv wv K c i r (t :: l) ∗ ops xv wv c a0 a1)
        ∗ (anyOwn c (row (slice t).s1 j (Nat.le_of_succ_le h)) ∗ anyOwn c (row (slice t).s1 (j + 1) h) ∗ kit (F := F) c (t, i)))
      ⊢ WP c (quantK a0 a1 (slice t) c k j (Nat.le_of_succ_le h) >>= fun _ => quantK a0 a1 (slice t) c k' (j + 1) h >>= fun _ => sendAK (slice t) t i c j h)
        fun _ => iprop((run xv wv K c i r l ∗ ops xv wv c a0 a1) ∗ credS c (t, i)) := by
  unfold run kit
  rw [hland]
  iintro ⟨⟨⟨#Hc, HO⟩, Hops⟩, H2, H3, Hland, Htok⟩
  rw [WP_bind]
  iapply (own_quant xv wv c a0 a1 (slice t) k j _) $$ [Hops H2]
  · isplitl [Hops]; · iexact Hops
    iexact H2
  iintro ⟨Hops, H2⟩
  rw [WP_bind]
  iapply (own_quant xv wv c a0 a1 (slice t) k' (j + 1) _) $$ [Hops H3]
  · isplitl [Hops]; · iexact Hops
    iexact H3
  iintro ⟨Hops, H3⟩
  ihave Hs := (pair_join c (slice t).s1 j h _ _) $$ [H2 H3]
  · isplitl [H2]; · iexact H2
    iexact H3
  unfold sendAK
  iapply (own_send xv wv K c t i _ (congrArg (peer c) hm.symm) ((slice t).s1h j h) ((slice t).r8h j h)
    (glue ![sent1 xv wv c (slice t) k, sent1 xv wv c (slice t) k']) (l.map (·, i) ++ r)
    (by rw [hsrc]; exact any_intro c _ _)
    (by
      rw [hrecv]
      have e : peer (tgt c (t, i)) (slice t).k1 = c := by rw [← hm]; exact tgt_tgt c (t, i)
      unfold got1
      rw [e])
    hA) $$ [Hs Hland Htok HO]
  · isplitr; · iexact Hc
    isplitl [Hs]; · iexact Hs
    isplitl [Hland]; · iexact Hland
    isplitl [Htok]; · iexact Htok
    iexact HO
  iintro ⟨Hcr, HO⟩
  isplitr [Hcr]
  · isplitl [HO]
    · isplitr; · iexact Hc
      iexact HO
    iexact Hops
  iexact Hcr

theorem visitA (r : List Xf) (t : Fin 7) (l : List (Fin 7)) :
    iprop((run xv wv K c 0 r (t :: l) ∗ ops xv wv c a0 a1) ∗ inA (F := F) c t)
      ⊢ WP c (phA a0 a1 c t) fun _ => iprop((run xv wv K c 0 r l ∗ ops xv wv c a0 a1) ∗ credS c (t, 0)) :=
  send_half xv wv K c a0 a1 t 0 2 (by decide) (slice t).k12 (slice t).k123 rfl (fun _ => rfl) (fun _ => rfl) (fun _ => rfl) rfl r l

theorem visitB (r : List Xf) (t : Fin 7) (l : List (Fin 7)) :
    iprop((run xv wv K c 2 r (t :: l) ∗ ops xv wv c a0 a1) ∗ inB (F := F) c t)
      ⊢ WP c (phB a0 a1 c t) fun _ => iprop((run xv wv K c 2 r l ∗ ops xv wv c a0 a1) ∗ credS c (t, 2)) :=
  send_half xv wv K c a0 a1 t 2 0 (by decide) (slice t).k1 (slice t).k13 rfl (fun _ => rfl) (fun _ => rfl) (fun _ => rfl) rfl r l

/-! ## The products kept -/

theorem keep_pair (S : Slice) (off off' : Fin 2 → Nat) (hoff : ∀ a, off a + S512x512.size a ≤ S4096x512.size a)
    (hoff' : ∀ a, off' a + S512x512.size a ≤ S4096x512.size a) (j : Nat) (h : j + 2 ≤ 4) :
    iprop(ops xv wv c a0 a1 ∗ (anyOwn c (row S.pb j (Nat.le_of_succ_le h)) ∗ anyOwn c (row S.pb (j + 1) h)))
      ⊢ WP c (keepK a0 a1 S off hoff j (Nat.le_of_succ_le h) >>= fun _ => keepK a0 a1 S off' hoff' (j + 1) h)
        fun _ => iprop(ops xv wv c a0 a1 ∗ (own c (row S.pb j (Nat.le_of_succ_le h)) (kept S (prodAt xv wv c S off hoff))
          ∗ own c (row S.pb (j + 1) h) (kept S (prodAt xv wv c S off' hoff')))) := by
  iintro ⟨Hops, H0, H1⟩
  rw [WP_bind]
  iapply (own_keep xv wv c a0 a1 S off hoff j _) $$ [Hops H0]
  · isplitl [Hops]; · iexact Hops
    iexact H0
  iintro ⟨Hops, H0⟩
  iapply (own_keep xv wv c a0 a1 S off' hoff' (j + 1) _) $$ [Hops H1]
  · isplitl [Hops]; · iexact Hops
    iexact H1
  iintro ⟨Hops, H1⟩
  isplitl [Hops]; · iexact Hops
  isplitl [H0]; · iexact H0
  iexact H1

def in2 (t : Fin 7) : sProp 𝕄 := iprop(anyOwn c (row (slice t).pb 0 (by decide)) ∗ anyOwn c (row (slice t).pb 1 (by decide)))
def in3 (t : Fin 7) : sProp 𝕄 := iprop(anyOwn c (row (slice t).pb 2 (by decide)) ∗ anyOwn c (row (slice t).pb 3 (by decide)))
def out2 (t : Fin 7) : sProp 𝕄 := iprop(own c (row (slice t).pb 0 (by decide)) (kept (slice t) (prodX xv wv c (slice t) (slice t).k2))
  ∗ own c (row (slice t).pb 1 (by decide)) (kept (slice t) (prodX xv wv c (slice t) (slice t).k23)))
def out3 (t : Fin 7) : sProp 𝕄 := iprop(own c (row (slice t).pb 2 (by decide)) (kept (slice t) (prodO xv wv c (slice t)))
  ∗ own c (row (slice t).pb 3 (by decide)) (kept (slice t) (prodX xv wv c (slice t) (slice t).k3)))

theorem visit2 (t : Fin 7) : iprop(ops xv wv c a0 a1 ∗ in2 (F := F) c t)
    ⊢ WP c (keep2 a0 a1 c t) fun _ => iprop(ops xv wv c a0 a1 ∗ out2 xv wv c t) :=
  keep_pair xv wv c a0 a1 (slice t) _ _ (xoff_inb c (slice t).k2) (xoff_inb c (slice t).k23) 0 (by decide)
theorem visit3 (t : Fin 7) : iprop(ops xv wv c a0 a1 ∗ in3 (F := F) c t)
    ⊢ WP c (keep3 a0 a1 c t) fun _ => iprop(ops xv wv c a0 a1 ∗ out3 xv wv c t) :=
  keep_pair xv wv c a0 a1 (slice t) _ _ (xoff2_inb c) (xoff_inb c (slice t).k3) 2 (by decide)

/-! ## The second exchange -/

/-- What the wait for transfer `p` takes. -/
def await (p : Xf) : sProp 𝕄 := iprop(credR (F := F) c p ∗ pos0 (F := F) c (some (true, p)))

def inC (t : Fin 7) : sProp 𝕄 :=
  iprop(await (F := F) c (t, 0) ∗ anyOwn c (slice t).f1 ∗ kit (F := F) c (t, 1) ∗ out2 xv wv c t)
def outC (t : Fin 7) : sProp 𝕄 :=
  iprop(pos1 c (some (true, t, 0)) ∗ anyOwn c (row (slice t).r8 2 (by decide)) ∗ anyOwn c (row (slice t).r8 3 (by decide))
    ∗ in2 (F := F) c t ∗ credS c (t, 1))

theorem visitC (r : List Xf) (hr : ∀ p ∈ r, 2 < rlv p) (t : Fin 7) (l : List (Fin 7)) :
    iprop(run xv wv K c 1 r (t :: l) ∗ inC xv wv c t) ⊢ WP c (phC c t) fun _ => iprop(run xv wv K c 1 r l ∗ outC (F := F) c t) := by
  unfold run inC await out2 kit outC in2 phC
  rw [show landPay (F := F) (tgt c (t, 1)) (t, 1) = anyOwn (tgt c (t, 1)) (slice t).r2 from rfl]
  iintro ⟨⟨#Hc, HO⟩, ⟨Hcr, Hat⟩, Hf, ⟨Hland, Htok⟩, Hp0, Hp1⟩
  rw [WP_bind]
  iapply (own_wait xv wv K c t 0 true (rsem t 0) rfl ((slice t).s1h 2 _) ((slice t).r8h 2 _) rfl
    ((t :: l).map (·, 1) ++ r) (fun p hp => by
      rcases List.mem_append.mp hp with h | h
      · obtain ⟨_, _, rfl⟩ := List.mem_map.mp h; exact (by decide : 2 < 3)
      · exact hr p h)) $$ [Hcr Hat HO]
  · isplitr; · iexact Hc
    isplitl [Hcr]; · iexact Hcr
    isplitl [Hat]; · iexact Hat
    iexact HO
  rw [show payOf xv wv c 0 (some (some (true, t, 0))) = own c ((slice t).r8h 2 (by decide)) (glue ![got1 xv wv c (slice t) (slice t).k12, got1 xv wv c (slice t) (slice t).k123]) from rfl]
  iintro ⟨Hr, Hat, HO⟩
  ihave Hr := (pair_split c (slice t).r8 2 _ _ _) $$ Hr
  icases Hr with ⟨Hr2, Hr3⟩
  ihave Hf := (any2_split c (slice t).f1) $$ Hf
  icases Hf with ⟨Hf0, Hf1⟩
  rw [WP_bind]
  iapply (own_mid c (slice t) 0 _ _ _) $$ [Hr2 Hp0 Hf0]
  · isplitl [Hr2]; · iexact Hr2
    isplitl [Hp0]; · iexact Hp0
    iexact Hf0
  iintro ⟨Hr2, Hp0, Hf0⟩
  rw [WP_bind]
  iapply (own_mid c (slice t) 1 _ _ _) $$ [Hr3 Hp1 Hf1]
  · isplitl [Hr3]; · iexact Hr3
    isplitl [Hp1]; · iexact Hp1
    iexact Hf1
  iintro ⟨Hr3, Hp1, Hf1⟩
  ihave Hf := (rows2_join c (slice t).f1 _ _) $$ [Hf0 Hf1]
  · isplitl [Hf0]; · iexact Hf0
    iexact Hf1
  iapply (own_send xv wv K c t 1 _ rfl (slice t).f1 (slice t).r2
    (glue ![sent2a xv wv c (slice t), sent2b xv wv c (slice t)]) (l.map (·, 1) ++ r)
    (any_intro c _ _)
    (by
      show _ ⊢ own (tgt c (t, 1)) (slice t).r2 (glue ![sent2a xv wv (peer (tgt c (t, 1)) (slice t).k2) (slice t), sent2b xv wv (peer (tgt c (t, 1)) (slice t).k2) (slice t)])
      rw [show peer (tgt c (t, 1)) (slice t).k2 = c from tgt_tgt c (t, 1)])
    rfl) $$ [Hf Hland Htok HO]
  · isplitr; · iexact Hc
    isplitl [Hf]; · iexact Hf
    isplitl [Hland]; · iexact Hland
    isplitl [Htok]; · iexact Htok
    iexact HO
  iintro ⟨Hcr, HO⟩
  isplitl [HO]
  · isplitr; · iexact Hc
    iexact HO
  isplitl [Hat]; · iexact Hat
  isplitl [Hr2]; · iexists _; iexact Hr2
  isplitl [Hr3]; · iexists _; iexact Hr3
  isplitl [Hp0 Hp1]
  · isplitl [Hp0]; · iexists _; iexact Hp0
    iexists _; iexact Hp1
  iexact Hcr

/-! ## The third exchange -/

def inD (t : Fin 7) : sProp 𝕄 :=
  iprop(await (F := F) c (t, 1) ∗ await (F := F) c (t, 2) ∗ anyOwn c (slice t).g2 ∗ kit (F := F) c (t, 3) ∗ out3 xv wv c t)
def outD (t : Fin 7) : sProp 𝕄 :=
  iprop(pos1 c (some (true, t, 1)) ∗ pos1 c (some (true, t, 2)) ∗ anyOwn c (slice t).r2
    ∗ anyOwn c (row (slice t).r8 0 (by decide)) ∗ anyOwn c (row (slice t).r8 1 (by decide))
    ∗ own c (row (slice t).g2 0 (by decide)) (half0 xv wv c (slice t)) ∗ in3 (F := F) c t ∗ credS c (t, 3))

theorem visitD (t : Fin 7) (l : List (Fin 7)) :
    iprop(run xv wv K c 3 [] (t :: l) ∗ inD xv wv c t) ⊢ WP c (phD c t) fun _ => iprop(run xv wv K c 3 [] l ∗ outD xv wv c t) := by
  have hl : ∀ p ∈ (t :: l).map (·, (3 : Fin 4)) ++ [], 3 < rlv p := fun p hp => by
    rw [List.append_nil] at hp
    obtain ⟨_, _, rfl⟩ := List.mem_map.mp hp; exact (by decide : 3 < 4)
  unfold run inD await out3 kit outD in3 phD
  rw [show landPay (F := F) (tgt c (t, 3)) (t, 3) = anyOwn (tgt c (t, 3)) (slice t).r3p from rfl]
  iintro ⟨⟨#Hc, HO⟩, ⟨Hcr, Hat⟩, ⟨Hcr', Hat'⟩, Hg, ⟨Hland, Htok⟩, Hp0, Hp1⟩
  rw [WP_bind]
  iapply (own_wait xv wv K c t 1 true (rsem t 1) rfl (slice t).f1 (slice t).r2 rfl ((t :: l).map (·, 3) ++ []) hl) $$ [Hcr Hat HO]
  · isplitr; · iexact Hc
    isplitl [Hcr]; · iexact Hcr
    isplitl [Hat]; · iexact Hat
    iexact HO
  rw [show payOf xv wv c 0 (some (some (true, t, 1))) = own c (slice t).r2 (glue ![got2a xv wv c (slice t), got2b xv wv c (slice t)]) from rfl]
  iintro ⟨Hr, Hat, HO⟩
  ihave Hr := (rows2_split c (slice t).r2 _ _) $$ Hr
  icases Hr with ⟨Hr0, Hr1⟩
  rw [WP_bind]
  iapply (own_wait xv wv K c t 2 true (rsem t 2) rfl ((slice t).s1h 0 _) ((slice t).r8h 0 _) rfl ((t :: l).map (·, 3) ++ [])
    (fun p hp => lt_trans (by exact (by decide : 2 < 3)) (hl p hp))) $$ [Hcr' Hat' HO]
  · isplitr; · iexact Hc
    isplitl [Hcr']; · iexact Hcr'
    isplitl [Hat']; · iexact Hat'
    iexact HO
  rw [show payOf xv wv c 0 (some (some (true, t, 2))) = own c ((slice t).r8h 0 (by decide)) (glue ![got1 xv wv c (slice t) (slice t).k1, got1 xv wv c (slice t) (slice t).k13]) from rfl]
  iintro ⟨Hq, Hat', HO⟩
  ihave Hq := (pair_split c (slice t).r8 0 _ _ _) $$ Hq
  icases Hq with ⟨Hq0, Hq1⟩
  ihave Hg := (any2_split c (slice t).g2) $$ Hg
  icases Hg with ⟨Hg0, Hg1⟩
  rw [WP_bind]
  iapply (own_last c (slice t) 0 _ _ _ _) $$ [Hr0 Hq0 Hp0 Hg0]
  · isplitl [Hr0]; · iexact Hr0
    isplitl [Hq0]; · iexact Hq0
    isplitl [Hp0]; · iexact Hp0
    iexact Hg0
  iintro ⟨Hr0, Hq0, Hp0, Hg0⟩
  rw [WP_bind]
  iapply (own_last c (slice t) 1 _ _ _ _) $$ [Hr1 Hq1 Hp1 Hg1]
  · isplitl [Hr1]; · iexact Hr1
    isplitl [Hq1]; · iexact Hq1
    isplitl [Hp1]; · iexact Hp1
    iexact Hg1
  iintro ⟨Hr1, Hq1, Hp1, Hg1⟩
  ihave Hg1 := (own_squeeze c (slice t).hw (row (slice t).g2 1 _) _) $$ Hg1
  iapply (own_send xv wv K c t 3 _ rfl (slice t).g2p (slice t).r3p
    (shapeCast (sh2 (slice t).w) (half1 xv wv c (slice t)) (sc13 (slice t).hw)) (l.map (·, 3) ++ [])
    (any_intro c _ _)
    (by
      show _ ⊢ own (tgt c (t, 3)) (slice t).r3p (shapeCast (sh2 (slice t).w) (half1 xv wv (peer (tgt c (t, 3)) (slice t).k3) (slice t)) (sc13 (slice t).hw))
      rw [show peer (tgt c (t, 3)) (slice t).k3 = c from tgt_tgt c (t, 3)])
    rfl) $$ [Hg1 Hland Htok HO]
  · isplitr; · iexact Hc
    isplitl [Hg1]; · iexact Hg1
    isplitl [Hland]; · iexact Hland
    isplitl [Htok]; · iexact Htok
    iexact HO
  iintro ⟨Hcr, HO⟩
  isplitl [HO]
  · isplitr; · iexact Hc
    iexact HO
  isplitl [Hat]; · iexact Hat
  isplitl [Hat']; · iexact Hat'
  isplitl [Hr0 Hr1]
  · iapply (any2_join c (slice t).r2)
    isplitl [Hr0]; · iexists _; iexact Hr0
    iexists _; iexact Hr1
  isplitl [Hq0]; · iexists _; iexact Hq0
  isplitl [Hq1]; · iexists _; iexact Hq1
  isplitl [Hg0]; · iexact Hg0
  isplitl [Hp0 Hp1]
  · isplitl [Hp0]; · iexists _; iexact Hp0
    iexists _; iexact Hp1
  iexact Hcr

/-! ## The result's columns -/

/-- A slice's columns of the result's memory. -/
abbrev colM (t : Fin 7) : Memref sig .tc .vmem (sh2 (slice t).w) .f32 := a2.slice (cols (slice t).w (slice t).lo (slice t).hlo) (fun _ => rfl)

def inE (t : Fin 7) : sProp 𝕄 :=
  iprop(await (F := F) c (t, 3) ∗ own c (row (slice t).g2 0 (by decide)) (half0 xv wv c (slice t)) ∗ anyOwn c (colM a2 t))
def outE (t : Fin 7) : sProp 𝕄 :=
  iprop(pos1 c (some (true, t, 3)) ∗ anyOwn c (row (slice t).g2 0 (by decide)) ∗ anyOwn c (slice t).r3
    ∗ own c (colM a2 t) (outS xv wv c (slice t)))

theorem visitE (t : Fin 7) :
    iprop((ctx xv wv K ∗ owesAny c 0) ∗ inE xv wv c a2 t) ⊢ WP c (phE a2 t) fun _ => iprop((ctx xv wv K ∗ owesAny c 0) ∗ outE xv wv c a2 t) := by
  unfold inE await outE phE
  iintro ⟨⟨#Hc, HO⟩, ⟨Hcr, Hat⟩, Hg, ⟨%Y, Ho⟩⟩
  rw [WP_bind]
  iapply (own_wait xv wv K c t 3 true (rsem t 3) rfl (slice t).g2p (slice t).r3p rfl [] (fun p hp => absurd hp List.not_mem_nil)) $$ [Hcr Hat HO]
  · isplitr; · iexact Hc
    isplitl [Hcr]; · iexact Hcr
    isplitl [Hat]; · iexact Hat
    iexact HO
  rw [show payOf xv wv c 0 (some (some (true, t, 3))) = own c (slice t).r3p (gotH xv wv c (slice t)) from rfl]
  iintro ⟨Hr, Hat, HO⟩
  ihave Hr := (own_unsqueeze c (slice t).hw (row (slice t).r3 0 _) _) $$ Hr
  rw [WP_bind]
  iapply (own_get c (slice t).g2 0 _ _) $$ Hg; iintro Hg
  rw [WP_bind]
  iapply (own_get c (slice t).r3 0 _ _) $$ Hr; iintro Hr
  rw [WP_bind]
  iapply (part_load c a2 (cols (slice t).w (slice t).lo (slice t).hlo) (fun _ => rfl) Y) $$ Ho; iintro Ho
  iapply (part_store c a2 (cols (slice t).w (slice t).lo (slice t).hlo) (fun _ => rfl) Y _) $$ Ho; iintro Ho
  isplitl [HO]
  · isplitr; · iexact Hc
    iexact HO
  isplitl [Hat]; · iexact Hat
  isplitl [Hg]; · iexists _; iexact Hg
  isplitl [Hr]
  · iapply (any1_join c (slice t).r3); iexists _; iexact Hr
  iexact Ho

/-! ## The sends, waited for -/

/-- What the wait for a send takes and leaves. -/
def inS (i : Fin 4) (t : Fin 7) : sProp 𝕄 := iprop(credS (F := F) c (t, i) ∗ pos0 (F := F) c (some (false, t, i)))
def outS' (i : Fin 4) (t : Fin 7) : sProp 𝕄 := iprop(srcPay (F := F) c (t, i) ∗ pos1 (F := F) c (some (false, t, i)))

theorem visitS (i : Fin 4) (t : Fin 7) {sh : Shape} {e : EltTy} {sh' : Shape} {e' : EltTy}
    (src : Memref sig .tc .vmem sh' e') (dst : Memref sig .tc .vmem sh e) {hsrc : src.view.WordExact} {hdst : dst.view.WordExact}
    (hA : dst.view.dmaCredit = amt (t, i)) :
    iprop((ctx xv wv K ∗ owesAny c 0) ∗ inS (F := F) c i t)
      ⊢ WP c (Prog.lift (.waitDma2 (ssem t i) src dst hsrc hdst)) fun _ => iprop((ctx xv wv K ∗ owesAny c 0) ∗ outS' (F := F) c i t) := by
  unfold inS outS'
  iintro ⟨⟨#Hc, HO⟩, Hcr, Hat⟩
  iapply (own_wait xv wv K c t i false (ssem t i) rfl src dst hA [] (fun p hp => absurd hp List.not_mem_nil)) $$ [Hcr Hat HO]
  · isplitr; · iexact Hc
    isplitl [Hcr]; · iexact Hcr
    isplitl [Hat]; · iexact Hat
    iexact HO
  rw [show payOf xv wv c 0 (some (some (false, t, i))) = srcPay (F := F) c (t, i) from rfl]
  iintro ⟨Hs, Hat, HO⟩
  isplitl [HO]
  · isplitr; · iexact Hc
    iexact HO
  isplitl [Hs]; · iexact Hs
  iexact Hat

end

end Cert.KernelIdeal.Hand

end
-- ==== Proof.Body.lean ====
/-
The whole body, from what a device starts with to what it ends with.
-/
module

public import proofs.«01_k».proof.Proof.Visits

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

section families

theorem bigSep_option {α : Type} [Fintype α] [DecidableEq α] (Φ : Option α → sProp 𝕄) :
    bigSep Finset.univ Φ = iprop(Φ none ∗ bigSep Finset.univ fun a : α => Φ (some a)) := by
  have hu : (Finset.univ : Finset (Option α)) = insert none (Finset.univ.map Function.Embedding.some) := by
    refine Finset.ext fun a => ⟨fun _ => ?_, fun _ => Finset.mem_univ a⟩
    cases a with
    | none => exact Finset.mem_insert_self _ _
    | some a => exact Finset.mem_insert_of_mem (Finset.mem_map.mpr ⟨a, Finset.mem_univ a, rfl⟩)
  have hn : (none : Option α) ∉ Finset.univ.map Function.Embedding.some := fun h => by
    obtain ⟨a, _, e⟩ := Finset.mem_map.mp h; cases e
  rw [hu]
  exact (bigSep_insert hn).trans (congrArg (fun X => iprop(Φ none ∗ X)) (bigSep_map Function.Embedding.some))

theorem bigSep_bool (Φ : Bool → sProp 𝕄) : bigSep Finset.univ Φ = iprop(Φ false ∗ Φ true) :=
  bigSep_univ_eq_bigSepL [false, true] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

/-- Something of each slice. -/
abbrev every (Φ : Fin 7 → sProp 𝕄) : sProp 𝕄 := bigSep Finset.univ Φ

/-- Something of each transfer, by the transfer's number. -/
theorem by_number (Φ : Xf → sProp 𝕄) : bigSep Finset.univ Φ
    = iprop((every fun t => Φ (t, 0)) ∗ (every fun t => Φ (t, 1)) ∗ (every fun t => Φ (t, 2)) ∗ (every fun t => Φ (t, 3))) := by
  rw [bigSep_univ_prod, bigSep_congr fun t _ => bigSep_four (fun i : Fin 4 => Φ (t, i)), bigSep_sep', bigSep_sep', bigSep_sep']

/-- Something of each cell. -/
theorem by_cell (Φ : CK → sProp 𝕄) : bigSep Finset.univ Φ
    = iprop(Φ none ∗ (bigSep Finset.univ fun p : Xf => Φ (some (false, p))) ∗ (bigSep Finset.univ fun p : Xf => Φ (some (true, p)))) := by
  rw [bigSep_option, bigSep_univ_prod, bigSep_bool]

theorem every_mono {Φ Ψ : Fin 7 → sProp 𝕄} (h : ∀ t, Φ t ⊢ Ψ t) : every Φ ⊢ every Ψ := bigSep_mono fun t _ => h t
theorem every_join {Φ Ψ Χ : Fin 7 → sProp 𝕄} (h : ∀ t, iprop(Φ t ∗ Ψ t) ⊢ Χ t) : iprop(every Φ ∗ every Ψ) ⊢ every Χ :=
  (Entails.of_eq (bigSep_sep' _ _ _).symm).trans (every_mono h)
theorem every_split {Φ Ψ Χ : Fin 7 → sProp 𝕄} (h : ∀ t, Χ t ⊢ iprop(Φ t ∗ Ψ t)) : every Χ ⊢ iprop(every Φ ∗ every Ψ) :=
  (every_mono h).trans (Entails.of_eq (bigSep_sep' _ _ _))

end families

section
variable (xv : Dev nD → S4096x512.Idx → Elt F .f32) (wv : Dev nD → S512x2048.Idx → Elt F .f32)
variable (K : Dev nD × CK → ℕ) (c : Dev nD)

/-! ## The meeting -/

/-- A barrier token of a peer. -/
abbrev barTok (d : Fin 3) : sProp 𝕄 := dutyTok ER (barCell (peer c (mk3 d))) 0 d

/-- A device's landing memories, by direction. -/
theorem land_eq : (bigSep Finset.univ fun p : Xf => landPay (F := F) c p)
    = bigSep Finset.univ fun d : Fin 3 => barPay (F := F) (peer c (mk3 d)) d := by
  have hfil : ∀ d : Fin 3, (Finset.univ.filter fun p : Xf => xmask p = mk3 d) = Finset.univ.filter fun p : Xf => xdir p = d := fun d =>
    Finset.filter_congr fun p _ => by rw [mask_dir p]; exact mk3_injective.eq_iff
  refine Eq.trans ?_ (bigSep_congr fun d _ => show bigSep (Finset.univ.filter fun p : Xf => xdir p = d) (fun p => landPay (F := F) c p) = _ from ?_)
  · rw [BI.bigSep_fiberwise Finset.univ xdir fun p : Xf => landPay (F := F) c p, dir_onto]
  · unfold barPay
    rw [hfil]
    refine bigSep_congr fun p hp => ?_
    have e : xmask p = mk3 d := (mask_dir p).trans (congrArg mk3 (Finset.mem_filter.mp hp).2)
    show landPay c p = landPay (peer (peer c (mk3 d)) (xmask p)) p
    rw [e, peer_peer]

theorem own_signal (d : Fin 3) (O : CellTallies nD τ sig Unit) {Q : PUnit → sProp 𝕄} :
    iprop(ctx xv wv K ∗ owesAny c (O + tallyAt (barCell (peer c (mk3 d))) () 1) ∗ barTok (F := F) c d ∗ barPay (F := F) (peer c (mk3 d)) d)
      ⊢ iprop((owesAny c O -∗ Q ⟨⟩) -∗ WP c (semSignalWord (peer c (mk3 d)) barS 1#32) Q) := by
  unfold semSignalWord
  iintro ⟨#Hc, ⟨%W, HO⟩, Ht, Hp⟩ Hk
  iapply (Rounds.wp_signal 𝒱₀ ER (rd xv wv) (c : Thread nD τ) none (dst := (peer c (mk3 d) : Thread nD τ)) (κ := K (peer c (mk3 d), none))
      (d := d) (by rw [show ((peer c (mk3 d) : Thread nD τ), SemLoc.reg barS) = kcell (peer c (mk3 d), none) from rfl, rd_duties]; exact Finset.mem_univ _)
      ((rd_amount xv wv (peer c (mk3 d)) none d).trans (by decide)) () O rfl) $$ [HO Ht Hp]
  · isplitr; · iapply (ctx_inv xv wv K (peer c (mk3 d), none)); iexact Hc
    isplitl [HO]; · iexact HO
    isplitl [Ht]; · iexact Ht
    isplitl [Hp]; · iapply (show barPay (F := F) (peer c (mk3 d)) d ⊢ _ from Entails.of_eq (rd_payload xv wv (peer c (mk3 d)) none d).symm); iexact Hp
    iapply (ctx_reached xv wv K (peer c (mk3 d), none)); iexact Hc
  iintro HO
  rw [wp_ret]
  imodintro
  iapply Hk
  iexists W; iexact HO

theorem own_meet {Q : PUnit → sProp 𝕄} :
    iprop(ctx xv wv K ∗ owesAny c (O₀ c) ∗ (bigSep Finset.univ fun d : Fin 3 => barTok (F := F) c d)
        ∗ (bigSep Finset.univ fun p : Xf => landPay (F := F) c p) ∗ cred (tallyAt (barCell c) () 3) ∗ pos0 c none)
      ⊢ iprop((((bigSep Finset.univ fun p : Xf => landPay (F := F) (tgt c p) p) ∗ pos1 c none ∗ owesAny c (debt c sends)) -∗ Q ⟨⟩)
        -∗ WP c (meet c) Q) := by
  rw [land_eq, bigSep_three, bigSep_three]
  unfold meet O₀
  iintro ⟨#Hc, HO, ⟨Ht0, Ht1, Ht2⟩, ⟨Hp0, Hp1, Hp2⟩, Hcr, Hat⟩ Hk
  rw [WP_bind]
  iapply (own_signal xv wv K c 0 _) $$ [HO Ht0 Hp0]
  · isplitr; · iexact Hc
    isplitl [HO]; · iexact HO
    isplitl [Ht0]; · iexact Ht0
    iexact Hp0
  iintro HO
  rw [WP_bind]
  iapply (own_signal xv wv K c 1 _) $$ [HO Ht1 Hp1]
  · isplitr; · iexact Hc
    isplitl [HO]; · iexact HO
    isplitl [Ht1]; · iexact Ht1
    iexact Hp1
  iintro HO
  rw [WP_bind]
  iapply (own_signal xv wv K c 2 _) $$ [HO Ht2 Hp2]
  · isplitr; · iexact Hc
    isplitl [HO]; · iexact HO
    isplitl [Ht2]; · iexact Ht2
    iexact Hp2
  iintro ⟨%W, HO⟩
  unfold semWaitWord
  iapply (Rounds.wp_wait_rest_token 𝒱₀ ER (rd xv wv) (c : Thread nD τ) none (κ := K (c, none)) (sm := csem none) (k' := 3)
      (wpE_semWait_eq 𝒱₀ (c : Thread nD τ) none Set.univ) (Set.mem_univ _) () (O := debt c sends) (W := W) (R := 0) (m := 0) (T := ∅)
      ((Nat.zero_add _).trans (expect_bar xv wv c).symm)) $$ [Hcr HO Hat]
  · isplitr; · iapply (ctx_inv xv wv K (c, none)); iexact Hc
    isplitl [Hcr]; · iexact Hcr
    isplitl [HO]; · iexact HO
    isplitr; · iapply (mayWait_debt c none sends (by decide)); iapply (ctx_lev xv wv K); iexact Hc
    iexact Hat
  iintro ⟨HO, Hat, -, Hpay⟩
  ihave Hp := (Entails.of_eq (rest_bar xv wv c)) $$ Hpay
  rw [wp_ret]
  imodintro
  iapply Hk
  isplitl [Hp]; · iexact Hp
  isplitl [Hat]; · iexact Hat
  iexists _; iexact HO

/-! ## The result's memory, in columns -/

/-- Which slice a column belongs to. -/
def colOf (n : Fin 2048) : Fin 7 :=
  if n.val < 256 then 0 else if n.val < 512 then 1 else if n.val < 896 then 2 else if n.val < 1280 then 3
    else if n.val < 1664 then 4 else if n.val < 1920 then 5 else 6

theorem colOf_bounds (n : Fin 2048) : (slice (colOf n)).lo ≤ n.val ∧ n.val < (slice (colOf n)).lo + (slice (colOf n)).w := by
  have hn := n.isLt
  unfold colOf
  split
  · exact ⟨Nat.zero_le _, by show n.val < 0 + 256; omega⟩
  split
  · exact ⟨by show 256 ≤ n.val; omega, by show n.val < 256 + 256; omega⟩
  split
  · exact ⟨by show 512 ≤ n.val; omega, by show n.val < 512 + 384; omega⟩
  split
  · exact ⟨by show 896 ≤ n.val; omega, by show n.val < 896 + 384; omega⟩
  split
  · exact ⟨by show 1280 ≤ n.val; omega, by show n.val < 1280 + 384; omega⟩
  split
  · exact ⟨by show 1664 ≤ n.val; omega, by show n.val < 1664 + 256; omega⟩
  · exact ⟨by show 1920 ≤ n.val; omega, by show n.val < 1920 + 128; omega⟩

theorem slices_apart : ∀ t t' : Fin 7, t ≠ t' → (slice t).lo + (slice t).w ≤ (slice t').lo ∨ (slice t').lo + (slice t').w ≤ (slice t).lo := by decide

theorem colOf_eq (t : Fin 7) (n : Fin 2048) (h : (slice t).lo ≤ n.val) (h' : n.val < (slice t).lo + (slice t).w) : colOf n = t := by
  by_contra hne
  have hb := colOf_bounds n
  rcases slices_apart (colOf n) t hne with h1 | h1 <;> omega

theorem slice_wpos (t : Fin 7) : 0 < (slice t).w := by rcases (slice t).hw with h | h | h <;> rw [h] <;> decide

/-- An index of a slice's columns, from one of the whole. -/
def local2 (t : Fin 7) (i : S512x2048.Idx) : (sh2 (slice t).w).Idx := fun a => match a with
  | ⟨0, _⟩ => (i 0 : Fin 512)
  | ⟨1, _⟩ => (⟨((i 1 : Nat) - (slice t).lo) % (slice t).w, Nat.mod_lt _ (slice_wpos t)⟩ : Fin (slice t).w)

/-- The result a device writes. -/
def outFull (i : S512x2048.Idx) : Elt F .f32 := outS xv wv c (slice (colOf (i 1))) (local2 (colOf (i 1)) i)

abbrev colR (t : Fin 7) : Rect S512x2048 := cols (slice t).w (slice t).lo (slice t).hlo

theorem colR_emb0 (t : Fin 7) (i : (sh2 (slice t).w).Idx) : ((colR t).emb i 0 : Nat) = (i 0 : Nat) := by
  show 0 + 1 * (i 0 : Nat) = _; omega
theorem colR_emb1 (t : Fin 7) (i : (sh2 (slice t).w).Idx) : ((colR t).emb i 1 : Nat) = (slice t).lo + (i 1 : Nat) := by
  show (slice t).lo + 1 * (i 1 : Nat) = _; omega

theorem idx2_ext {m n : Nat} {i j : (⟨2, ![m, n]⟩ : Shape).Idx} (h0 : (i 0 : Nat) = j 0) (h1 : (i 1 : Nat) = j 1) : i = j := by
  funext a
  match a with
  | ⟨0, _⟩ => exact Fin.ext h0
  | ⟨1, _⟩ => exact Fin.ext h1

theorem colOf_emb (t : Fin 7) (i : (sh2 (slice t).w).Idx) : colOf ((colR t).emb i 1) = t := by
  have h : (i 1 : Nat) < (slice t).w := (i 1).isLt
  refine colOf_eq t _ ?_ ?_
  · rw [colR_emb1]; omega
  · rw [colR_emb1]; omega

theorem local2_emb (t : Fin 7) (i : (sh2 (slice t).w).Idx) : local2 t ((colR t).emb i) = i := by
  have h : (i 1 : Nat) < (slice t).w := (i 1).isLt
  refine idx2_ext (colR_emb0 t i) ?_
  show (((colR t).emb i 1 : Nat) - (slice t).lo) % (slice t).w = (i 1 : Nat)
  rw [colR_emb1, Nat.add_sub_cancel_left, Nat.mod_eq_of_lt h]

theorem outFull_emb (t : Fin 7) : (fun i => outFull xv wv c ((colR t).emb i)) = outS xv wv c (slice t) := by
  funext i
  unfold outFull
  rw [colOf_emb t i, local2_emb]

theorem emb_local2 (i : S512x2048.Idx) : (colR (colOf (i 1))).emb (local2 (colOf (i 1)) i) = i := by
  obtain ⟨h, h'⟩ := colOf_bounds (i 1)
  refine idx2_ext (colR_emb0 _ _) ((colR_emb1 _ _).trans ?_)
  show (slice (colOf (i 1))).lo + ((i 1 : Nat) - (slice (colOf (i 1))).lo) % (slice (colOf (i 1))).w = (i 1 : Nat)
  rw [Nat.mod_eq_of_lt (by omega)]; omega

theorem cols_disj (t t' : Fin 7) (ht : t ≠ t') : Disjoint (colR t).set (colR t').set := by
  refine Rect.disjoint_of_axis _ _ (1 : Fin 2) fun a ha b hb h => ?_
  have ha' : a < (slice t).w := ha
  have hb' : b < (slice t').w := hb
  have h' : (slice t).lo + 1 * a = (slice t').lo + 1 * b := h
  rcases slices_apart t t' ht with h1 | h1 <;> omega

theorem cols_cover : (Finset.univ : Finset (Fin 7)).biUnion (fun t => (colR t).set) = Finset.univ := by
  refine Finset.eq_univ_iff_forall.mpr fun i => Finset.mem_biUnion.mpr ⟨colOf (i 1), Finset.mem_univ _, ?_⟩
  rw [← Rect.map_emb_univ]
  exact Finset.mem_map.mpr ⟨local2 (colOf (i 1)) i, Finset.mem_univ _, emb_local2 i⟩

variable (a2 : Memref sig .tc .vmem S512x2048 .f32)

theorem cols_split : anyOwn c a2 ⊢ (every fun t => anyOwn c (colM a2 t) : sProp 𝕄) := by
  iintro ⟨%X, H⟩
  ihave H := (owns_rects (c : Thread nD τ) a2 fullShare colR (fun _ _ => rfl) cols_disj cols_cover X) $$ H
  have h : (bigSep Finset.univ fun t => owns (c : Thread nD τ) (a2.slice (colR t) (fun _ => rfl)) fullShare fun j => X ((colR t).emb j))
      ⊢ (every fun t => anyOwn c (colM a2 t) : sProp 𝕄) := every_mono fun t => any_intro c (colM a2 t) _
  iapply h; iexact H

theorem cols_join : (every fun t => own c (colM a2 t) (outS xv wv c (slice t))) ⊢ own c a2 (outFull xv wv c) :=
  (every_mono fun t => Entails.of_eq (congrArg (own c (colM a2 t)) (outFull_emb xv wv c t).symm)).trans
    (owns_of_rects (c : Thread nD τ) a2 fullShare colR (fun _ _ => rfl) cols_disj cols_cover (outFull xv wv c))

end

end Cert.KernelIdeal.Hand

end
-- ==== Proof.Sound.lean ====
/-
The body's execution, its loops in order.
-/
module

public import proofs.«01_k».proof.Proof.Body

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (xv : Dev nD → S4096x512.Idx → Elt F .f32) (wv : Dev nD → S512x2048.Idx → Elt F .f32)
variable (K : Dev nD × CK → ℕ) (c : Dev nD)
variable (a0 : Memref sig .tc .vmem S4096x512 .f32) (a1 a2 : Memref sig .tc .vmem S512x2048 .f32)

/-! ## A slice's buffers -/

/-- A slice's seven buffers, holding anything. -/
def bufs (t : Fin 7) : sProp 𝕄 :=
  iprop(anyOwn c (slice t).s1 ∗ anyOwn c (slice t).r8 ∗ anyOwn c (slice t).f1 ∗ anyOwn c (slice t).r2 ∗ anyOwn c (slice t).g2
    ∗ anyOwn c (slice t).r3 ∗ anyOwn c (slice t).pb)

/-- The planes of the first parcel's halves. -/
def hiA (t : Fin 7) : sProp 𝕄 := iprop(anyOwn c (row (slice t).s1 2 (by decide)) ∗ anyOwn c (row (slice t).s1 3 (by decide)))
def loB (t : Fin 7) : sProp 𝕄 := iprop(anyOwn c (row (slice t).s1 0 (by decide)) ∗ anyOwn c (row (slice t).s1 1 (by decide)))
def theF (t : Fin 7) : sProp 𝕄 := anyOwn c (slice t).f1
def theG (t : Fin 7) : sProp 𝕄 := anyOwn c (slice t).g2

theorem bufs_open (t : Fin 7) : bufs (F := F) c t ⊢ iprop(hiA c t ∗ loB c t ∗ in2 c t ∗ in3 c t ∗ theF c t ∗ theG c t
    ∗ landPay c (t, 0) ∗ landPay c (t, 1) ∗ landPay c (t, 2) ∗ landPay c (t, 3)) := by
  unfold bufs hiA loB in2 in3 theF theG
  rw [show landPay (F := F) c (t, 0) = anyOwn c ((slice t).r8h 2 (by decide)) from rfl, show landPay (F := F) c (t, 1) = anyOwn c (slice t).r2 from rfl,
    show landPay (F := F) c (t, 2) = anyOwn c ((slice t).r8h 0 (by decide)) from rfl, show landPay (F := F) c (t, 3) = anyOwn c (slice t).r3p from rfl]
  iintro ⟨Hs, Hr, Hf, Hr2, Hg, Hr3, Hp⟩
  ihave Hs := (any4_split c (slice t).s1) $$ Hs
  icases Hs with ⟨Hs0, Hs1, Hs2, Hs3⟩
  ihave Hp := (any4_split c (slice t).pb) $$ Hp
  icases Hp with ⟨Hp0, Hp1, Hp2, Hp3⟩
  ihave Hr := (any4_split c (slice t).r8) $$ Hr
  icases Hr with ⟨H0, H1, H2, H3⟩
  isplitl [Hs2 Hs3]
  · isplitl [Hs2]; · iexact Hs2
    iexact Hs3
  isplitl [Hs0 Hs1]
  · isplitl [Hs0]; · iexact Hs0
    iexact Hs1
  isplitl [Hp0 Hp1]
  · isplitl [Hp0]; · iexact Hp0
    iexact Hp1
  isplitl [Hp2 Hp3]
  · isplitl [Hp2]; · iexact Hp2
    iexact Hp3
  isplitl [Hf]; · iexact Hf
  isplitl [Hg]; · iexact Hg
  isplitl [H2 H3]
  · iapply (anyPair_join c (slice t).r8 2 _)
    isplitl [H2]; · iexact H2
    iexact H3
  isplitl [Hr2]; · iexact Hr2
  isplitl [H0 H1]
  · iapply (anyPair_join c (slice t).r8 0 _)
    isplitl [H0]; · iexact H0
    iexact H1
  ihave Hr3 := (any1_split c (slice t).r3) $$ Hr3
  icases Hr3 with ⟨%X, Hr3⟩
  iexists _
  iapply (own_squeeze c (slice t).hw (row (slice t).r3 0 _) X); iexact Hr3

/-- What is left of a slice at the end. -/
def leftC (t : Fin 7) : sProp 𝕄 :=
  iprop(anyOwn c (row (slice t).r8 2 (by decide)) ∗ anyOwn c (row (slice t).r8 3 (by decide)) ∗ in2 c t)
def leftD (t : Fin 7) : sProp 𝕄 :=
  iprop(anyOwn c (slice t).r2 ∗ anyOwn c (row (slice t).r8 0 (by decide)) ∗ anyOwn c (row (slice t).r8 1 (by decide)) ∗ in3 c t)
def leftE (t : Fin 7) : sProp 𝕄 := iprop(anyOwn c (row (slice t).g2 0 (by decide)) ∗ anyOwn c (slice t).r3)

theorem bufs_close (t : Fin 7) : iprop(leftC (F := F) c t ∗ leftD c t ∗ leftE c t
    ∗ srcPay c (t, 0) ∗ srcPay c (t, 1) ∗ srcPay c (t, 2) ∗ srcPay c (t, 3)) ⊢ bufs (F := F) c t := by
  unfold bufs leftC leftD leftE in2 in3
  rw [show srcPay (F := F) c (t, 0) = anyOwn c ((slice t).s1h 2 (by decide)) from rfl, show srcPay (F := F) c (t, 1) = anyOwn c (slice t).f1 from rfl,
    show srcPay (F := F) c (t, 2) = anyOwn c ((slice t).s1h 0 (by decide)) from rfl, show srcPay (F := F) c (t, 3) = anyOwn c (slice t).g2p from rfl]
  iintro ⟨⟨H2, H3, Hp0, Hp1⟩, ⟨Hr2, H0, H1, Hp2, Hp3⟩, ⟨Hg0, Hr3⟩, Hs, Hf, Hs', ⟨%X, Hg1⟩⟩
  ihave Hs := (anyPair_split c (slice t).s1 2 _) $$ Hs
  icases Hs with ⟨Hs2, Hs3⟩
  ihave Hs' := (anyPair_split c (slice t).s1 0 _) $$ Hs'
  icases Hs' with ⟨Hs0, Hs1⟩
  isplitl [Hs0 Hs1 Hs2 Hs3]
  · iapply (any4_join c (slice t).s1)
    isplitl [Hs0]; · iexact Hs0
    isplitl [Hs1]; · iexact Hs1
    isplitl [Hs2]; · iexact Hs2
    iexact Hs3
  isplitl [H0 H1 H2 H3]
  · iapply (any4_join c (slice t).r8)
    isplitl [H0]; · iexact H0
    isplitl [H1]; · iexact H1
    isplitl [H2]; · iexact H2
    iexact H3
  isplitl [Hf]; · iexact Hf
  isplitl [Hr2]; · iexact Hr2
  isplitl [Hg0 Hg1]
  · iapply (any2_join c (slice t).g2)
    isplitl [Hg0]; · iexact Hg0
    iexists _
    iapply (own_unsqueeze c (slice t).hw (row (slice t).g2 1 _) X); iexact Hg1
  isplitl [Hr3]; · iexact Hr3
  iapply (any4_join c (slice t).pb)
  isplitl [Hp0]; · iexact Hp0
  isplitl [Hp1]; · iexact Hp1
  isplitl [Hp2]; · iexact Hp2
  iexact Hp3

/-! ## What the stages need and leave, regrouped -/

theorem toA (t : Fin 7) : iprop(hiA (F := F) c t ∗ kit c (t, 0)) ⊢ inA c t := by
  unfold hiA inA; iintro ⟨⟨H, H'⟩, Hk⟩
  isplitl [H]; · iexact H
  isplitl [H']; · iexact H'
  iexact Hk
theorem toB (t : Fin 7) : iprop(loB (F := F) c t ∗ kit c (t, 2)) ⊢ inB c t := by
  unfold loB inB; iintro ⟨⟨H, H'⟩, Hk⟩
  isplitl [H]; · iexact H
  isplitl [H']; · iexact H'
  iexact Hk
theorem fromC (t : Fin 7) : outC (F := F) c t ⊢ iprop(pos1 c (some (true, t, 0)) ∗ credS c (t, 1) ∗ leftC c t) := by
  unfold outC leftC; iintro ⟨H1, H2, H3, H4, H5⟩
  isplitl [H1]; · iexact H1
  isplitl [H5]; · iexact H5
  isplitl [H2]; · iexact H2
  isplitl [H3]; · iexact H3
  iexact H4
theorem fromD (t : Fin 7) : outD xv wv c t ⊢ iprop(pos1 c (some (true, t, 1)) ∗ pos1 c (some (true, t, 2)) ∗ credS c (t, 3)
    ∗ own c (row (slice t).g2 0 (by decide)) (half0 xv wv c (slice t)) ∗ leftD c t) := by
  unfold outD leftD; iintro ⟨H1, H2, H3, H4, H5, H6, H7, H8⟩
  isplitl [H1]; · iexact H1
  isplitl [H2]; · iexact H2
  isplitl [H8]; · iexact H8
  isplitl [H6]; · iexact H6
  isplitl [H3]; · iexact H3
  isplitl [H4]; · iexact H4
  isplitl [H5]; · iexact H5
  iexact H7
theorem fromE (t : Fin 7) : outE xv wv c a2 t ⊢ iprop(pos1 c (some (true, t, 3)) ∗ own c (colM a2 t) (outS xv wv c (slice t)) ∗ leftE c t) := by
  unfold outE leftE; iintro ⟨H1, H2, H3, H4⟩
  isplitl [H1]; · iexact H1
  isplitl [H4]; · iexact H4
  isplitl [H2]; · iexact H2
  iexact H3

/-! ## The body -/

/-- What a device starts with -/
def begins : sProp 𝕄 :=
  iprop(ctx xv wv K ∗ owesAny c (O₀ c) ∗ ops xv wv c a0 a1 ∗ anyOwn c a2 ∗ every (bufs c)
    ∗ (bigSep Finset.univ fun p : Xf => toks (F := F) c p) ∗ (bigSep Finset.univ fun d : Fin 3 => barTok (F := F) c d)
    ∗ cred (tallyAt (barCell c) () 3) ∗ (bigSep Finset.univ fun p : Xf => credR (F := F) c p) ∗ (bigSep Finset.univ fun k : CK => pos0 (F := F) c k))
/-- and ends with. -/
def ends : sProp 𝕄 :=
  iprop(owesAny c 0 ∗ ops xv wv c a0 a1 ∗ own c a2 (outFull xv wv c) ∗ every (bufs c) ∗ (bigSep Finset.univ fun k : CK => pos1 (F := F) c k))

theorem nodup1 : ord1.Nodup := by decide
theorem nodup2 : ord2.Nodup := by decide
theorem nodup3 : ord3.Nodup := by decide
theorem nodup4 : ord4.Nodup := by decide
theorem full1 : ord1.toFinset = Finset.univ := by decide
theorem full2 : ord2.toFinset = Finset.univ := by decide
theorem full3 : ord3.toFinset = Finset.univ := by decide
theorem full4 : ord4.toFinset = Finset.univ := by decide

/-- The transfers still to be sent after each exchange. -/
def rest2 : List Xf := ord3.map (·, 3) ++ []
def rest1 : List Xf := ord2.map (·, 1) ++ rest2
def rest0 : List Xf := ord1.map (·, 2) ++ rest1

theorem levels3 : ∀ p ∈ rest2, 2 < rlv p := by decide

theorem run_sends : iprop(ctx xv wv K ∗ owesAny c (debt c sends)) ⊢ run xv wv K c 0 rest0 ord1 := .rfl
theorem run_next0 : run xv wv K c 0 rest0 [] ⊢ run xv wv K c 2 rest1 ord1 := .rfl
theorem run_next1 : run xv wv K c 2 rest1 [] ⊢ run xv wv K c 1 rest2 ord2 := .rfl
theorem run_next2 : run xv wv K c 1 rest2 [] ⊢ run xv wv K c 3 [] ord3 := .rfl
theorem run_last : run xv wv K c 3 [] [] ⊢ iprop(ctx xv wv K ∗ owesAny c 0) := .rfl

theorem split_bufs : every (bufs (F := F) c) ⊢ iprop(every (hiA c) ∗ every (loB c) ∗ every (in2 c) ∗ every (in3 c) ∗ every (theF c) ∗ every (theG c)
    ∗ (every fun t => landPay c (t, 0)) ∗ (every fun t => landPay c (t, 1)) ∗ (every fun t => landPay c (t, 2)) ∗ (every fun t => landPay c (t, 3))) := by
  refine (every_mono (bufs_open c)).trans (Entails.of_eq ?_)
  unfold every
  simp only [bigSep_sep']

theorem join_bufs : iprop(every (leftC (F := F) c) ∗ every (leftD c) ∗ every (leftE c)
    ∗ (every fun t => srcPay c (t, 0)) ∗ (every fun t => srcPay c (t, 1)) ∗ (every fun t => srcPay c (t, 2)) ∗ (every fun t => srcPay c (t, 3)))
      ⊢ every (bufs (F := F) c) := by
  refine (Entails.of_eq ?_).trans (every_mono (bufs_close c))
  unfold every
  simp only [bigSep_sep']

theorem split_C : every (outC (F := F) c) ⊢ iprop((every fun t => pos1 c (some (true, t, 0))) ∗ (every fun t => credS c (t, 1)) ∗ every (leftC c)) := by
  refine (every_mono (fromC c)).trans (Entails.of_eq ?_)
  unfold every
  simp only [bigSep_sep']
theorem split_D : every (outD xv wv c) ⊢ iprop((every fun t => pos1 c (some (true, t, 1))) ∗ (every fun t => pos1 c (some (true, t, 2))) ∗ (every fun t => credS c (t, 3))
    ∗ (every fun t => own c (row (slice t).g2 0 (by decide)) (half0 xv wv c (slice t))) ∗ every (leftD c)) := by
  refine (every_mono (fromD xv wv c)).trans (Entails.of_eq ?_)
  unfold every
  simp only [bigSep_sep']
theorem split_E : every (outE xv wv c a2) ⊢ iprop((every fun t => pos1 c (some (true, t, 3))) ∗ (every fun t => own c (colM a2 t) (outS xv wv c (slice t))) ∗ every (leftE c)) := by
  refine (every_mono (fromE xv wv c a2)).trans (Entails.of_eq ?_)
  unfold every
  simp only [bigSep_sep']
theorem split_S (i : Fin 4) : every (outS' (F := F) c i) ⊢ iprop((every fun t => srcPay c (t, i)) ∗ (every fun t => pos1 c (some (false, t, i)))) := by
  refine Entails.of_eq ?_
  unfold every outS'
  simp only [bigSep_sep']

theorem own_device {α : Type} (k : Dev nD → PrK F α) (Q : α → sProp 𝕄) : WP c (Prog.lift .deviceId >>= k) Q = WP c (k c) Q :=
  wp_deviceId 𝒱₀ (c : Thread nD τ) none Set.univ

theorem sound_body : begins xv wv K c a0 a1 a2 ⊢ WP c (bodyK a0 a1 a2) fun _ => ends xv wv c a0 a1 a2 := by
  unfold bodyK
  rw [own_device]
  unfold begins
  iintro ⟨#Hc, HO, Hops, Ho, Hb, Htok, Hbt, Hcb, Hcr, Hpos⟩
  ihave Hb := (split_bufs c) $$ Hb
  icases Hb with ⟨HA, HB, H2, H3, HF, HG, HL0, HL1, HL2, HL3⟩
  ihave Hpos := (Entails.of_eq (by_cell (fun k : CK => pos0 (F := F) c k))) $$ Hpos
  icases Hpos with ⟨Hpb, HpS, HpR⟩
  -- the meeting
  rw [WP_bind]
  iapply (own_meet xv wv K c) $$ [HO Hbt HL0 HL1 HL2 HL3 Hcb Hpb]
  · isplitr; · iexact Hc
    isplitl [HO]; · iexact HO
    isplitl [Hbt]; · iexact Hbt
    isplitl [HL0 HL1 HL2 HL3]
    · iapply (Entails.of_eq (by_number (fun p : Xf => landPay (F := F) c p)).symm)
      isplitl [HL0]; · iexact HL0
      isplitl [HL1]; · iexact HL1
      isplitl [HL2]; · iexact HL2
      iexact HL3
    isplitl [Hcb]; · iexact Hcb
    iexact Hpb
  iintro ⟨HL, Hpb, HO⟩
  -- the kits, the waits, the sends' positions
  ihave Hkit := (Entails.of_eq ((bigSep_sep' Finset.univ (fun p : Xf => landPay (F := F) (tgt c p) p) (fun p => toks (F := F) c p)).symm.trans (by_number (kit (F := F) c)))) $$ [HL Htok]
  · isplitl [HL]; · iexact HL
    iexact Htok
  icases Hkit with ⟨Hk0, Hk1, Hk2, Hk3⟩
  ihave Haw := (Entails.of_eq ((bigSep_sep' Finset.univ (fun p : Xf => credR (F := F) c p) (fun p => pos0 (F := F) c (some (true, p)))).symm.trans (by_number (await (F := F) c)))) $$ [Hcr HpR]
  · isplitl [Hcr]; · iexact Hcr
    iexact HpR
  icases Haw with ⟨Hw0, Hw1, Hw2, Hw3⟩
  ihave HpS := (Entails.of_eq (by_number (fun p : Xf => pos0 (F := F) c (some (false, p))))) $$ HpS
  icases HpS with ⟨Hs0, Hs1, Hs2, Hs3⟩
  -- the first exchange
  rw [WP_bind]
  iapply (own_all c (phA a0 a1 c) (fun l => iprop(run xv wv K c 0 rest0 l ∗ ops xv wv c a0 a1)) (inA c) (fun t => credS c (t, 0))
    (visitA xv wv K c a0 a1 rest0) ord1 nodup1 full1) $$ [HO Hops HA Hk0]
  · isplitl [HO Hops]
    · isplitl [HO]
      · iapply (run_sends xv wv K c)
        isplitr; · iexact Hc
        iexact HO
      iexact Hops
    iapply (every_join (toA c))
    isplitl [HA]; · iexact HA
    iexact Hk0
  iintro ⟨⟨HO, Hops⟩, HS0⟩
  rw [WP_bind]
  iapply (own_all c (phB a0 a1 c) (fun l => iprop(run xv wv K c 2 rest1 l ∗ ops xv wv c a0 a1)) (inB c) (fun t => credS c (t, 2))
    (visitB xv wv K c a0 a1 rest1) ord1 nodup1 full1) $$ [HO Hops HB Hk2]
  · isplitl [HO Hops]
    · isplitl [HO]; · iapply (run_next0 xv wv K c); iexact HO
      iexact Hops
    iapply (every_join (toB c))
    isplitl [HB]; · iexact HB
    iexact Hk2
  iintro ⟨⟨HO, Hops⟩, HS2⟩
  -- the products kept
  rw [WP_bind]
  iapply (own_all c (keep2 a0 a1 c) (fun _ => ops xv wv c a0 a1) (in2 c) (out2 xv wv c) (fun t _ => visit2 xv wv c a0 a1 t) ord2 nodup2 full2) $$ [Hops H2]
  · isplitl [Hops]; · iexact Hops
    iexact H2
  iintro ⟨Hops, H2⟩
  rw [WP_bind]
  iapply (own_all c (keep3 a0 a1 c) (fun _ => ops xv wv c a0 a1) (in3 c) (out3 xv wv c) (fun t _ => visit3 xv wv c a0 a1 t) ord3 nodup3 full3) $$ [Hops H3]
  · isplitl [Hops]; · iexact Hops
    iexact H3
  iintro ⟨Hops, H3⟩
  -- the second exchange
  rw [WP_bind]
  iapply (own_all c (phC c) (run xv wv K c 1 rest2) (inC xv wv c) (outC c) (visitC xv wv K c rest2 levels3) ord2 nodup2 full2) $$ [HO Hw0 HF Hk1 H2]
  · isplitl [HO]; · iapply (run_next1 xv wv K c); iexact HO
    unfold inC theF every
    simp only [bigSep_sep']
    isplitl [Hw0]; · iexact Hw0
    isplitl [HF]; · iexact HF
    isplitl [Hk1]; · iexact Hk1
    iexact H2
  iintro ⟨HO, HC⟩
  ihave HC := (split_C c) $$ HC
  icases HC with ⟨HR0, HS1, HlC⟩
  -- the third
  rw [WP_bind]
  iapply (own_all c (phD c) (run xv wv K c 3 []) (inD xv wv c) (outD xv wv c) (visitD xv wv K c) ord3 nodup3 full3) $$ [HO Hw1 Hw2 HG Hk3 H3]
  · isplitl [HO]; · iapply (run_next2 xv wv K c); iexact HO
    unfold inD theG every
    simp only [bigSep_sep']
    isplitl [Hw1]; · iexact Hw1
    isplitl [Hw2]; · iexact Hw2
    isplitl [HG]; · iexact HG
    isplitl [Hk3]; · iexact Hk3
    iexact H3
  iintro ⟨HO, HD⟩
  ihave HD := (split_D xv wv c) $$ HD
  icases HD with ⟨HR1, HR2, HS3, Hg0, HlD⟩
  -- the result
  ihave Ho := (cols_split c a2) $$ Ho
  rw [WP_bind]
  iapply (own_all c (phE a2) (fun _ => iprop(ctx xv wv K ∗ owesAny c 0)) (inE xv wv c a2) (outE xv wv c a2) (fun t _ => visitE xv wv K c a2 t) ord4 nodup4 full4) $$ [HO Hw3 Hg0 Ho]
  · isplitl [HO]
    · iapply (run_last xv wv K c); iexact HO
    unfold inE every
    simp only [bigSep_sep']
    isplitl [Hw3]; · iexact Hw3
    isplitl [Hg0]; · iexact Hg0
    iexact Ho
  iintro ⟨HO, HE⟩
  ihave HE := (split_E xv wv c a2) $$ HE
  icases HE with ⟨HR3, Ho, HlE⟩
  ihave Ho := (cols_join xv wv c a2) $$ Ho
  -- the sends
  rw [WP_bind]
  iapply (own_all c endA (fun _ => iprop(ctx xv wv K ∗ owesAny c 0)) (inS c 0) (outS' c 0) (fun t _ => visitS xv wv K c 0 t _ _ (amt_src t).1) ord1 nodup1 full1) $$ [HO HS0 Hs0]
  · isplitl [HO]; · iexact HO
    unfold inS every
    simp only [bigSep_sep']
    isplitl [HS0]; · iexact HS0
    iexact Hs0
  iintro ⟨HO, H⟩
  ihave H := (split_S c 0) $$ H
  icases H with ⟨HP0, HS0⟩
  rw [WP_bind]
  iapply (own_all c endB (fun _ => iprop(ctx xv wv K ∗ owesAny c 0)) (inS c 2) (outS' c 2) (fun t _ => visitS xv wv K c 2 t _ _ (amt_src t).2.2.1) ord1 nodup1 full1) $$ [HO HS2 Hs2]
  · isplitl [HO]; · iexact HO
    unfold inS every
    simp only [bigSep_sep']
    isplitl [HS2]; · iexact HS2
    iexact Hs2
  iintro ⟨HO, H⟩
  ihave H := (split_S c 2) $$ H
  icases H with ⟨HP2, HS2⟩
  rw [WP_bind]
  iapply (own_all c endC (fun _ => iprop(ctx xv wv K ∗ owesAny c 0)) (inS c 1) (outS' c 1) (fun t _ => visitS xv wv K c 1 t _ _ (amt_src t).2.1) ord2 nodup2 full2) $$ [HO HS1 Hs1]
  · isplitl [HO]; · iexact HO
    unfold inS every
    simp only [bigSep_sep']
    isplitl [HS1]; · iexact HS1
    iexact Hs1
  iintro ⟨HO, H⟩
  ihave H := (split_S c 1) $$ H
  icases H with ⟨HP1, HS1⟩
  iapply (own_all c endD (fun _ => iprop(ctx xv wv K ∗ owesAny c 0)) (inS c 3) (outS' c 3) (fun t _ => visitS xv wv K c 3 t _ _ (amt_src t).2.2.2) ord3 nodup3 full3) $$ [HO HS3 Hs3]
  · isplitl [HO]; · iexact HO
    unfold inS every
    simp only [bigSep_sep']
    isplitl [HS3]; · iexact HS3
    iexact Hs3
  iintro ⟨⟨-, HO⟩, H⟩
  ihave H := (split_S c 3) $$ H
  icases H with ⟨HP3, HS3⟩
  -- everything back
  unfold ends
  isplitl [HO]; · iexact HO
  isplitl [Hops]; · iexact Hops
  isplitl [Ho]; · iexact Ho
  isplitl [HlC HlD HlE HP0 HP1 HP2 HP3]
  · iapply (join_bufs c)
    isplitl [HlC]; · iexact HlC
    isplitl [HlD]; · iexact HlD
    isplitl [HlE]; · iexact HlE
    isplitl [HP0]; · iexact HP0
    isplitl [HP1]; · iexact HP1
    isplitl [HP2]; · iexact HP2
    iexact HP3
  iapply (Entails.of_eq (by_cell (fun k : CK => pos1 (F := F) c k)).symm)
  isplitl [Hpb]; · iexact Hpb
  isplitl [HS0 HS1 HS2 HS3]
  · iapply (Entails.of_eq (by_number (fun p : Xf => pos1 (F := F) c (some (false, p)))).symm)
    isplitl [HS0]; · iexact HS0
    isplitl [HS1]; · iexact HS1
    isplitl [HS2]; · iexact HS2
    iexact HS3
  iapply (Entails.of_eq (by_number (fun p : Xf => pos1 (F := F) c (some (true, p)))).symm)
  isplitl [HR0]; · iexact HR0
  isplitl [HR1]; · iexact HR1
  isplitl [HR2]; · iexact HR2
  iexact HR3

end

end Cert.KernelIdeal.Hand

end
-- ==== Proof.Deal.lean ====
/-
What the devices are given at the launch: the cells of their semaphores, the tokens of their duties
and the credit for what they are owed.
-/
module

public import proofs.«01_k».proof.Proof.Sound

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (xv : Dev nD → S4096x512.Idx → Elt F .f32) (wv : Dev nD → S512x2048.Idx → Elt F .f32)

/-! ## Cells and duties -/

/-- Every device's cells. -/
def theCells : Finset (GSem nD τ sig) := Finset.univ.map ⟨kcell, kcell_injective⟩

/-- Their duties: the three of a barrier, the one of a transfer's end. -/
abbrev dutyOf : Dev nD × (Fin 3 ⊕ (Bool × Xf)) → GSem nD τ sig × ℕ × Fin 3
  | (c, .inl d) => (barCell c, 0, d)
  | (c, .inr p) => (kcell (c, some p), 0, 0)
theorem dutyOf_injective : Function.Injective dutyOf := by
  rintro ⟨c, d | p⟩ ⟨c', d' | p'⟩ h
  · have h1 := kcell_injective (congrArg Prod.fst h)
    have h2 : d = d' := congrArg (fun x : GSem nD τ sig × ℕ × Fin 3 => x.2.2) h
    rw [h2, (Prod.mk.inj h1).1]
  · exact absurd (Prod.mk.inj (kcell_injective (congrArg Prod.fst h))).2 (fun e => by cases e)
  · exact absurd (Prod.mk.inj (kcell_injective (congrArg Prod.fst h))).2 (fun e => by cases e)
  · have h1 := Prod.mk.inj (kcell_injective (congrArg Prod.fst h))
    rw [h1.1, Option.some.inj h1.2]
def theDuties : Finset (GSem nD τ sig × ℕ × Fin 3) := Finset.univ.map ⟨dutyOf, dutyOf_injective⟩

/-- The tokens of a device's own cells, -/
def minted (c : Dev nD) : sProp 𝕄 :=
  iprop((bigSep Finset.univ fun d : Fin 3 => dutyTok ER (barCell c) 0 d)
    ∗ (bigSep Finset.univ fun p : Xf => dutyTok ER (sendCell c p) 0 0) ∗ (bigSep Finset.univ fun p : Xf => dutyTok ER (recvCell c p) 0 0))
/-- and of the duties it performs. -/
def dealt (c : Dev nD) : sProp 𝕄 :=
  iprop((bigSep Finset.univ fun p : Xf => toks (F := F) c p) ∗ (bigSep Finset.univ fun d : Fin 3 => barTok (F := F) c d))

/-- A direction's pairing of the devices, and a transfer's. -/
def alongBar : Dev nD × Fin 3 ≃ Dev nD × Fin 3 :=
  Function.Involutive.toPerm (fun x => (peer x.1 (mk3 x.2), x.2)) fun x => Prod.ext (peer_peer x.1 (mk3 x.2)) rfl
def alongXf : Dev nD × Xf ≃ Dev nD × Xf :=
  Function.Involutive.toPerm (fun x => (tgt x.1 x.2, x.2)) fun x => Prod.ext (tgt_tgt x.1 x.2) rfl

theorem bar_across : (bigSep Finset.univ fun c : Dev nD => bigSep Finset.univ fun d : Fin 3 => (dutyTok ER (barCell c) 0 d : sProp 𝕄))
    = bigSep Finset.univ fun c : Dev nD => bigSep Finset.univ fun d : Fin 3 => barTok (F := F) c d := by
  rw [← bigSep_univ_prod (fun x : Dev nD × Fin 3 => (dutyTok ER (barCell x.1) 0 x.2 : sProp 𝕄)),
    bigSep_univ_equiv alongBar, bigSep_univ_prod]
  exact bigSep_congr fun c _ => bigSep_congr fun d _ => rfl
theorem xf_across : (bigSep Finset.univ fun c : Dev nD => bigSep Finset.univ fun p : Xf => (dutyTok ER (recvCell c p) 0 0 : sProp 𝕄))
    = bigSep Finset.univ fun c : Dev nD => bigSep Finset.univ fun p : Xf => (dutyTok ER (recvCell (tgt c p) p) 0 0 : sProp 𝕄) := by
  rw [← bigSep_univ_prod (fun x : Dev nD × Xf => (dutyTok ER (recvCell x.1 x.2) 0 0 : sProp 𝕄)),
    bigSep_univ_equiv alongXf, bigSep_univ_prod]
  exact bigSep_congr fun c _ => bigSep_congr fun p _ => rfl

theorem deal : (bigSep Finset.univ fun c : Dev nD => (minted c : sProp 𝕄)) ⊢ bigSep Finset.univ fun c : Dev nD => dealt (F := F) c := by
  unfold minted dealt toks
  simp only [bigSep_sep']
  rw [bar_across, xf_across]
  iintro ⟨H1, H2, H3⟩
  isplitl [H2 H3]
  · isplitl [H2] <;> iassumption
  iexact H1

/-- What a device is given at launch. -/
def given (c : Dev nD) : sProp 𝕄 :=
  iprop((bigSep Finset.univ fun k : CK => roundState ER (rd xv wv) (kcell (c, k)) 0)
    ∗ (bigSep Finset.univ fun k : CK => pos0 (F := F) c k) ∗ (bigSep Finset.univ fun k : CK => reached ER (kcell (c, k)) 0) ∗ minted c)

theorem fund_cells : BI.own (ER (initOf theCells theDuties)) ⊢ (|==> bigSep Finset.univ (given xv wv) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theDuties (fun x => (dutyTok ER x.1 x.2.1 x.2.2 : sProp 𝕄)) = bigSep Finset.univ fun c : Dev nD => minted c := by
    unfold theDuties; rw [bigSep_map, bigSep_univ_prod]
    refine bigSep_congr fun c _ => ?_
    rw [bigSep_univ_sum, bigSep_univ_prod, bigSep_bool]
    rfl
  iintro HX
  imod (Rounds.fund ER (rd xv wv) theCells theDuties) $$ HX with ⟨Hst, Hr, Hat, Htok⟩
  imodintro
  ihave Hst := (Entails.of_eq (hX fun g => roundState ER (rd xv wv) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold given; simp only [bigSep_sep']
  isplitl [Hst]; · iexact Hst
  isplitl [Hat]; · iexact Hat
  isplitl [Hr]; · iexact Hr
  iexact Htok

/-! ## Semaphores -/

/-- The kernel's own semaphores. -/
abbrev osem : Bool × Xf → SemLoc sig := fun p => csem (some p)

abbrev ownSems (c : Dev nD) : sProp 𝕄 := Pipeline.ownSems0 (Ix := Unit) (Name := ℕ) (U := UU) (Lvl := ℕ) (Val := Elt F) (τ := τ) osem c

theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : iprop(unscopedSems0 c ∗ ownSems (F := F) c) = bigSep Finset.univ fun k : CK => (semVal (kcell (c, k)) 0 : sProp 𝕄) := by
  rw [bigSep_option, unscoped_eq]; rfl

/-- All of a device's cells, closed. -/
theorem close_cells (K : Dev nD × CK → ℕ) (c : Dev nD) :
    iprop(ctx xv wv K ∗ bigSep Finset.univ fun k : CK => pos1 (F := F) c k)
      ⊢ |={Set.univ}=> bigSep Finset.univ fun k : CK => (semVal (kcell (c, k)) 0 : sProp 𝕄) := by
  have h : ∀ k : CK, iprop(ctx xv wv K ∗ pos1 (F := F) c k) ⊢ (|={Set.univ}=> semVal (kcell (c, k)) 0 : sProp 𝕄) := fun k => by
    iintro ⟨#HC, Hp⟩
    ihave HI := (ctx_inv xv wv K (c, k)) $$ HC
    iapply (Rounds.cell_close ER (rd xv wv) (Set.mem_univ (K (c, k))) (fun h => h) (R := 0 + 1) (rd_later xv wv (kcell (c, k))))
    isplitl [HI]; · iexact HI
    iexact Hp
  refine (sep_mono_left (BI.bigSep_of_persistent (Finset.univ : Finset CK) (ctx xv wv K))).trans ?_
  rw [← bigSep_sep']
  exact (bigSep_mono fun k _ => h k).trans (bigSep_fupd _ _)

/-! ## The invariants -/

/-- A device's part of the start: its positions and its tokens, and what every device knows. -/
def known (K : Dev nD × CK → ℕ) : sProp 𝕄 :=
  iprop((bigSep Finset.univ fun ck : Dev nD × CK => cellInv ER (rd xv wv) (K ck) (kcell ck))
    ∗ (bigSep Finset.univ fun ck : Dev nD × CK => reached ER (kcell ck) 0))
instance known_persistent (K : Dev nD × CK → ℕ) : BI.Persistent (known xv wv K) := by unfold known; infer_instance

def starts (c : Dev nD) : sProp 𝕄 :=
  iprop(∃ K, known xv wv K ∗ dealt (F := F) c ∗ bigSep Finset.univ fun k : CK => pos0 (F := F) c k)

theorem alloc_cells (c : Dev nD) :
    iprop(ownSems (F := F) c ∗ unscopedSems0 c ∗ given xv wv c)
      ⊢ |={Set.univ}=> iprop((bigSep Finset.univ fun k : CK => iprop(∃ κ : ℕ, cellInv ER (rd xv wv) κ (kcell (c, k))))
          ∗ (bigSep Finset.univ fun k : CK => pos0 (F := F) c k) ∗ (bigSep Finset.univ fun k : CK => reached ER (kcell (c, k)) 0) ∗ minted c) := by
  unfold given
  iintro ⟨Hos, Hus, Hst, Hat, Hr, Htok⟩
  ihave Hv := (Entails.of_eq (sems_eq (F := F) c)) $$ [Hos Hus]
  · isplitl [Hus] <;> iassumption
  imod (show iprop((bigSep Finset.univ fun k : CK => semVal (kcell (c, k)) 0) ∗ bigSep Finset.univ fun k : CK => roundState ER (rd xv wv) (kcell (c, k)) 0)
      ⊢ (|={Set.univ}=> bigSep Finset.univ fun k : CK => iprop(∃ κ : ℕ, cellInv ER (rd xv wv) κ (kcell (c, k))) : sProp 𝕄) from by
        rw [← bigSep_sep']
        exact (bigSep_mono fun k _ => (Rounds.body_intro ER (rd xv wv) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem share_out :
    (bigSep Finset.univ fun c : Dev nD => iprop((bigSep Finset.univ fun k : CK => iprop(∃ κ : ℕ, cellInv ER (rd xv wv) κ (kcell (c, k))))
          ∗ (bigSep Finset.univ fun k : CK => pos0 (F := F) c k) ∗ (bigSep Finset.univ fun k : CK => reached ER (kcell (c, k)) 0) ∗ minted c) : sProp 𝕄)
      ⊢ bigSep Finset.univ (starts xv wv) := by
  simp only [bigSep_sep']
  rw [← bigSep_univ_prod (fun ck : Dev nD × CK => iprop(∃ κ : ℕ, cellInv ER (rd xv wv) κ (kcell ck))),
    ← bigSep_univ_prod (fun ck : Dev nD × CK => (reached ER (kcell ck) 0 : sProp 𝕄))]
  iintro ⟨HI, Hat, #HR, Htok⟩
  ihave HK := (BI.bigSep_exists_pi Finset.univ (fun (ck : Dev nD × CK) (κ : ℕ) => (cellInv ER (rd xv wv) κ (kcell ck) : sProp 𝕄))) $$ HI
  icases HK with ⟨%K, #HI⟩
  ihave Htk := (deal (F := F)) $$ Htok
  have h : ∀ c : Dev nD, iprop(known xv wv K ∗ dealt (F := F) c ∗ bigSep Finset.univ fun k : CK => pos0 (F := F) c k) ⊢ starts xv wv c := fun c => by
    unfold starts; iintro H; iexists K; iexact H
  have h' : iprop(known xv wv K ∗ bigSep Finset.univ fun c : Dev nD => iprop(dealt (F := F) c ∗ bigSep Finset.univ fun k : CK => pos0 (F := F) c k))
      ⊢ bigSep Finset.univ (starts xv wv) := by
    refine (sep_mono_left (BI.bigSep_of_persistent (Finset.univ : Finset (Dev nD)) (known xv wv K))).trans ?_
    rw [← bigSep_sep']
    exact bigSep_mono fun c _ => h c
  iapply h'
  isplitr
  · unfold known; isplitl; · iexact HI
    iexact HR
  rw [bigSep_sep']
  isplitl [Htk] <;> iassumption

/-- Every device's cells at once. -/
theorem all_cells : (bigSep Finset.univ fun c : Dev nD => iprop(ownSems (F := F) c ∗ unscopedSems0 c ∗ given xv wv c) : sProp 𝕄)
    ⊢ |={Set.univ}=> bigSep Finset.univ (starts xv wv) :=
  ((bigSep_mono fun c _ => alloc_cells xv wv c).trans (bigSep_fupd _ _)).trans (BI.fupd_mono (share_out xv wv))

end

/-! ## The credit at launch -/

theorem tally_kcell (a b : Dev nD × CK) (n : ℕ) : (tallyAt (kcell a) () n : CellTallies nD τ sig Unit) (kcell b) () = if a = b then n else 0 := by
  rw [tallyAt_apply]
  by_cases h : a = b
  · rw [if_pos h, if_pos ⟨congrArg kcell h.symm, rfl⟩]
  · rw [if_neg h, if_neg fun e => h (kcell_injective e.1.symm)]

/-- What a device owes another's barrier. -/
theorem debt_bar (d c : Dev nD) : ∀ l : List Xf, debt d l (barCell c) () = 0
  | [] => rfl
  | p :: l => by
    show debt d l (barCell c) () + (tallyAt (recvCell (tgt d p) p) () (amt p) : CellTallies nD τ sig Unit) (barCell c) () = 0
    rw [debt_bar d c l, tally_kcell, if_neg fun e => by cases (Prod.mk.inj e).2]

theorem debt_recv (d c : Dev nD) (p : Xf) : ∀ l : List Xf, debt d l (recvCell c p) () = if tgt d p = c then l.count p * amt p else 0
  | [] => by rw [List.count_nil, Nat.zero_mul, ite_self]; rfl
  | q :: l => by
    show debt d l (recvCell c p) () + (tallyAt (recvCell (tgt d q) q) () (amt q) : CellTallies nD τ sig Unit) (recvCell c p) () = _
    rw [debt_recv d c p l, tally_kcell]
    by_cases hq : q = p
    · subst hq
      by_cases hc : tgt d q = c
      · rw [if_pos hc, if_pos (by rw [hc]), if_pos hc, List.count_cons_self, Nat.succ_mul]
      · rw [if_neg hc, if_neg (fun e => hc (Prod.mk.inj e).1), if_neg hc]
    · have hn : ¬ ((tgt d q, (some (true, q) : CK)) = (c, some (true, p))) := fun e => hq (by have := (Prod.mk.inj e).2; cases this; rfl)
      rw [if_neg hn, Nat.add_zero, List.count_cons_of_ne hq]

theorem count_sends : ∀ p : Xf, sends.count p = 1 := by decide

theorem owed_bar (d c : Dev nD) : O₀ d (barCell c) () = (if peer d 4 = c then 1 else 0) + (if peer d 3 = c then 1 else 0) + (if peer d 1 = c then 1 else 0) := by
  show debt d sends (barCell c) () + (tallyAt (barCell (peer d 4)) () 1 : CellTallies nD τ sig Unit) (barCell c) ()
    + (tallyAt (barCell (peer d 3)) () 1 : CellTallies nD τ sig Unit) (barCell c) () + (tallyAt (barCell (peer d 1)) () 1 : CellTallies nD τ sig Unit) (barCell c) () = _
  have e : ∀ a : Dev nD, ((a, (none : CK)) = (c, none)) = (a = c) := fun a => propext ⟨fun h => (Prod.mk.inj h).1, fun h => by rw [h]⟩
  rw [debt_bar, tally_kcell, tally_kcell, tally_kcell, Nat.zero_add]
  simp only [e]
theorem owed_recv (d c : Dev nD) (p : Xf) : O₀ d (recvCell c p) () = if tgt d p = c then amt p else 0 := by
  show debt d sends (recvCell c p) () + (tallyAt (barCell (peer d 4)) () 1 : CellTallies nD τ sig Unit) (recvCell c p) ()
    + (tallyAt (barCell (peer d 3)) () 1 : CellTallies nD τ sig Unit) (recvCell c p) () + (tallyAt (barCell (peer d 1)) () 1 : CellTallies nD τ sig Unit) (recvCell c p) () = _
  have e : ∀ a : Dev nD, ((a, (none : CK)) = (c, some (true, p))) = False := fun a => eq_false fun h => by cases (Prod.mk.inj h).2
  rw [debt_recv, tally_kcell, tally_kcell, tally_kcell, count_sends, Nat.one_mul]
  simp only [e, if_false, Nat.add_zero]

theorem peer_eq (d c : Dev nD) (k : Fin 8) : (peer d k = c) = (d = peer c k) :=
  propext ⟨fun h => by rw [← h, peer_peer], fun h => by rw [h, peer_peer]⟩

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [peer_eq]
  rw [Finset.sum_ite_eq' Finset.univ (peer c 4) fun _ => 1, Finset.sum_ite_eq' Finset.univ (peer c 3) fun _ => 1,
    Finset.sum_ite_eq' Finset.univ (peer c 1) fun _ => 1, if_pos (Finset.mem_univ _), if_pos (Finset.mem_univ _), if_pos (Finset.mem_univ _)]
theorem launch_recv (c : Dev nD) (p : Xf) :
    tallyOn (recvCell c p) (launchCredit (Pipeline.owing O₀) 0 (recvCell c p)) = (tallyAt (recvCell c p) () (amt p) : CellTallies nD τ sig Unit) := by
  unfold tallyAt; refine congrArg _ (Finsupp.ext fun u => ?_); cases u
  rw [Pipeline.launchCredit_owing, Finsupp.single_eq_same, Finset.sum_congr rfl fun d _ => owed_recv d c p]
  simp only [tgt, peer_eq]
  rw [Finset.sum_ite_eq' Finset.univ (peer c (xmask p)) fun _ => amt p, if_pos (Finset.mem_univ _)]

theorem credit_at_launch (c : Dev nD) :
    (Pipeline.launchCred O₀ c : sProp 𝕄) ⊢ iprop(cred (tallyAt (barCell c) () 3) ∗ bigSep Finset.univ fun p : Xf => credR (F := F) c p) := by
  unfold Pipeline.launchCred
  have hs : (bigSep Finset.univ fun sm : SemLoc sig => (cred (tallyOn ((c.tc : Thread nD τ), sm) (launchCredit (Pipeline.owing O₀) 0 ((c.tc : Thread nD τ), sm))) : sProp 𝕄))
      ⊢ bigSep Finset.univ fun k : CK => cred (tallyOn (kcell (c, k)) (launchCredit (Pipeline.owing O₀) 0 (kcell (c, k)))) :=
    (bigSep_subset (Finset.subset_univ (Finset.univ.map ⟨csem, csem_injective⟩))).trans (Entails.of_eq (bigSep_map _))
  refine hs.trans ((Entails.of_eq (by_cell _)).trans ?_)
  iintro ⟨Hb, -, Hr⟩
  isplitl [Hb]
  · iapply (Entails.of_eq (congrArg cred (launch_bar c))); iexact Hb
  have h : (bigSep Finset.univ fun p : Xf => (cred (tallyOn (recvCell c p) (launchCredit (Pipeline.owing O₀) 0 (recvCell c p))) : sProp 𝕄))
      = bigSep Finset.univ fun p : Xf => credR (F := F) c p := bigSep_congr fun p _ => congrArg cred (launch_recv c p)
  iapply (Entails.of_eq h); iexact Hr

end Cert.KernelIdeal.Hand

end
-- ==== Proof.BodyEq.lean ====
/-
The printed body is the body written once for a slice.
-/
module

public import proofs.«01_k».proof.Proof.Clean

@[expose] public section

noncomputable section

namespace Cert.KernelIdeal.Hand

open Idealize.ShloMosaic Idealize.SL.Sem Facts₀ Facts

variable {F : FTy → Type} [FloatOps F] [Facts]

set_option maxRecDepth 100000 in
set_option maxHeartbeats 0 in
theorem body_eq (a0 : Memref sig .tc .vmem S4096x512 .f32) (h0 : a0.IsWhole) (a1 : Memref sig .tc .vmem S512x2048 .f32) (h1 : a1.IsWhole)
    (a2 : Memref sig .tc .vmem S512x2048 .f32) (h2 : a2.IsWhole) :
    cc0_body a0 h0 a1 h1 a2 h2 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) cc0_scratch49 cc0_scratch50
    = bodyK (F := F) a0 a1 a2 := rfl

end Cert.KernelIdeal.Hand

end
-- ==== Proof.Launch.lean ====
/-
The launch of the eight devices, and its run.
-/
module

public import proofs.«01_k».proof.Proof.Deal
public import proofs.«01_k».proof.Proof.BodyEq
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The slices' buffers -/

/-- Buffer `j` of slice `t`. -/
def bufRef (t j : Fin 7) : Ref sig .tc := ⟨.vmem, (⟨3 + 7 * j.val + t.val, by omega⟩ : Fin 52), rfl⟩

theorem bufRef_injective : Function.Injective fun x : Fin 7 × Fin 7 => bufRef x.1 x.2 := by
  rintro ⟨t, j⟩ ⟨t', j'⟩ h
  have h1 : 3 + 7 * j.val + t.val = 3 + 7 * j'.val + t'.val := congrArg (fun b : Ref sig .tc => b.idx.val) h
  exact Prod.ext (Fin.ext (by show t.val = t'.val; omega)) (Fin.ext (by show j.val = j'.val; omega))

/-- A buffer, holding anything. -/
abbrev someBuf (c : Dev nD) (b : Ref sig .tc) : sProp 𝕄 :=
  iprop(∃ f : Buf (Elt F) ((c.tc : Thread nD τ).loc b), ((c.tc : Thread nD τ).loc b) ↦{fullShare} f)

theorem any_whole (c : Dev nD) (b : Ref sig .tc) :
    iprop(∃ X, owns (c : Thread nD τ) (Memref.whole b) fullShare X) = someBuf (F := F) c b := by
  have h1 : iprop(∃ X, owns (c : Thread nD τ) (Memref.whole b) fullShare X) ⊢ someBuf (F := F) c b := by
    unfold owns; simp only [Memref.view_whole, View.read_whole, View.set_whole]
    iintro ⟨%X, %f, -, H⟩; iexists f; iexact H
  have h2 : someBuf (F := F) c b ⊢ iprop(∃ X, owns (c : Thread nD τ) (Memref.whole b) fullShare X) := by
    unfold owns; simp only [Memref.view_whole, View.read_whole, View.set_whole]
    iintro ⟨%f, H⟩; iexists f; iexists f
    isplitr; · ipureintro; rfl
    iexact H
  exact equiv_iff.mp ⟨h1, h2⟩

/-- A memory's shape, its elements and itself. -/
abbrev Mem : Type := Σ sh : Shape, Σ e : EltTy, Memref sig .tc .vmem sh e
abbrev memOf {sh : Shape} {e : EltTy} (m : Memref sig .tc .vmem sh e) : Mem := ⟨sh, e, m⟩
abbrev bufMem (t j : Fin 7) : Mem := memOf (Memref.whole (bufRef t j))

theorem any_buf (c : Dev nD) (t j : Fin 7) {sh : Shape} {e : EltTy} (m : Memref sig .tc .vmem sh e) (h : memOf m = bufMem t j) :
    anyOwn (F := F) c m = someBuf (F := F) c (bufRef t j) := by
  cases h; exact any_whole c (bufRef t j)

theorem buf_s1 (t : Fin 7) : memOf (slice t).s1 = bufMem t 0 := by fin_cases t <;> rfl
theorem buf_r8 (t : Fin 7) : memOf (slice t).r8 = bufMem t 1 := by fin_cases t <;> rfl
theorem buf_f1 (t : Fin 7) : memOf (slice t).f1 = bufMem t 2 := by fin_cases t <;> rfl
theorem buf_r2 (t : Fin 7) : memOf (slice t).r2 = bufMem t 3 := by fin_cases t <;> rfl
theorem buf_g2 (t : Fin 7) : memOf (slice t).g2 = bufMem t 4 := by fin_cases t <;> rfl
theorem buf_r3 (t : Fin 7) : memOf (slice t).r3 = bufMem t 5 := by fin_cases t <;> rfl
theorem buf_pb (t : Fin 7) : memOf (slice t).pb = bufMem t 6 := by fin_cases t <;> rfl

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bufs_eq (c : Dev nD) (t : Fin 7) : bufs (F := F) c t = bigSep Finset.univ fun j : Fin 7 => someBuf (F := F) c (bufRef t j) := by
  rw [seven]
  unfold bufs
  rw [any_buf c t 0 _ (buf_s1 t), any_buf c t 1 _ (buf_r8 t), any_buf c t 2 _ (buf_f1 t), any_buf c t 3 _ (buf_r2 t), any_buf c t 4 _ (buf_g2 t),
    any_buf c t 5 _ (buf_r3 t), any_buf c t 6 _ (buf_pb t)]

theorem scoped_refs : (Finset.univ.filter fun b : Ref sig .tc => b.isScoped) \ Finset.univ.image (Pipeline.stageRef cfg0.spec)
    = Finset.univ.map ⟨fun x : Fin 7 × Fin 7 => bufRef x.1 x.2, bufRef_injective⟩ := by decide +kernel

theorem scoped_eq (c : Dev nD) :
    (Pipeline.scopedRest (Ix := Unit) (Name := ℕ) (U := UU) (Lvl := ℕ) (Val := Elt F) (τ := τ) cfg0.spec c : sProp 𝕄) = every (bufs (F := F) c) := by
  unfold Pipeline.scopedRest
  rw [scoped_refs, bigSep_map, bigSep_univ_prod]
  exact bigSep_congr fun t _ => (bufs_eq c t).symm

/-! ## The run's data -/

section
variable (m : (ℓ : Loc nD τ sig) → Buf (Elt F) ℓ) (ρ : Dev nD → PrngReg)

/-- The launch's state: all counters zero. -/
abbrev s₀ : MemSt nD τ sig (Elt F) := ⟨m, fun _ => 0, ρ⟩

/-- A device's parts of the two operands. -/
def xAt (c : Dev nD) : S4096x512.Idx → Elt F .f32 := m ((c : Thread nD τ).loc main_arg0)
def wAt (c : Dev nD) : S512x2048.Idx → Elt F .f32 := m ((c : Thread nD τ).loc main_arg1)

/-- What a device starts from, -/
def Φ₀ (c : Dev nD) : sProp 𝕄 :=
  iprop((starts (xAt m) (wAt m) c ∗ levAts L lv ∗ Pipeline.launchCred O₀ c) ∗ every (bufs (F := F) c))
/-- and what it ends with. -/
def Φ₁ (c : Dev nD) : sProp 𝕄 :=
  iprop((bigSep Finset.univ fun k : CK => (semVal (kcell (c, k)) 0 : sProp 𝕄)) ∗ every (bufs (F := F) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wAt m c
    | ⟨2, _⟩ => outFull (xAt m) (wAt m) c
    | ⟨_ + 3, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

theorem read0 (f : main_arg0.ty.Contents (Elt F)) : (win0_0.blk t0_0).view.read (Elt F) f = f :=
  Memref.read_access_unit_zero (Elt F) main_arg0 (funext fun a => by fin_cases a <;> decide) (fun a => by fin_cases a <;> decide) f
theorem read1 (f : main_arg1.ty.Contents (Elt F)) : (win0_1.blk t0_0).view.read (Elt F) f = f :=
  Memref.read_access_unit_zero (Elt F) main_arg1 (funext fun a => by fin_cases a <;> decide) (fun a => by fin_cases a <;> decide) f
theorem read2 (f : main_v1.ty.Contents (Elt F)) : (win0_2.blk t0_0).view.read (Elt F) f = f :=
  Memref.read_access_unit_zero (Elt F) main_v1 (funext fun a => by fin_cases a <;> decide) (fun a => by fin_cases a <;> decide) f

theorem before0 (c : Dev nD) (d) : (dats (F := F) m ρ 0 c).before (0 : Fin 3) t0_0 d = xAt m c := by
  unfold Dat.before; rw [if_pos (fetch0_0 t0_0)]
  exact read0 (F := F) _
theorem before1 (c : Dev nD) (d) : (dats (F := F) m ρ 0 c).before (1 : Fin 3) t0_0 d = wAt m c := by
  unfold Dat.before; rw [if_pos (fetch0_1 t0_0)]
  exact read1 (F := F) _

/-! ## The body -/

set_option maxRecDepth 8000 in
theorem prog_fun : (defs₀ (F := F)) .tc cfg0.body = fun a : Fin cfg0.N × ((w : Fin cfg0.W) → Fin (cfg0.win w).nbuf) =>
    cc0_body (win0_0.stage (a.2 0)) (hstage0_0 0) (win0_1.stage (a.2 1)) (hstage0_1 0) (win0_2.stage (a.2 2)) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) cc0_scratch49 cc0_scratch50 := rfl

theorem prog_eq (t : Fin cfg0.N) : (defs₀ (F := F)) .tc cfg0.body (cfg0.bodyArgs t (cfg0.slots t)) = bodyK (F := F) (st0_0 t) (st0_1 t) (st0_2 t) :=
  (congrFun prog_fun _).trans (body_eq _ _ _ _ _ _)

/-- The body from the launch's data to the end's. -/
theorem whole_body (c : Dev nD) (a0 : Memref sig .tc .vmem S4096x512 .f32) (a1 a2 : Memref sig .tc .vmem S512x2048 .f32) :
    iprop(Φ₀ m c ∗ owesAny c (O₀ c) ∗ own c a0 (xAt m c) ∗ own c a1 (wAt m c) ∗ anyOwn c a2)
      ⊢ WP c (bodyK (F := F) a0 a1 a2) fun _ =>
        iprop(Φ₁ c ∗ owesAny c 0 ∗ own c a0 (xAt m c) ∗ own c a1 (wAt m c) ∗ own c a2 (outFull (xAt m) (wAt m) c)) := by
  have hb : ∀ K, iprop(ctx (xAt m) (wAt m) K ∗ begins (xAt m) (wAt m) K c a0 a1 a2)
      ⊢ WP c (bodyK (F := F) a0 a1 a2) fun _ =>
        iprop(Φ₁ c ∗ owesAny c 0 ∗ own c a0 (xAt m c) ∗ own c a1 (wAt m c) ∗ own c a2 (outFull (xAt m) (wAt m) c)) := fun K => by
    refine (sep_mono_right (sound_body (xAt m) (wAt m) K c a0 a1 a2)).trans ((wp_frame_l _ _ _).trans ((wp_mono _ _ _ fun _ => ?_).trans (wp_fupd _ _ _ _ _)))
    unfold ends Φ₁ ops
    iintro ⟨#HC, HO, ⟨H0, H1⟩, H2, Hb, Hp⟩
    imod (close_cells (xAt m) (wAt m) K c) $$ [Hp] with Hz
    · isplitr; · iexact HC
      iexact Hp
    imodintro
    isplitl [Hz Hb]
    · isplitl [Hz] <;> iassumption
    isplitl [HO]; · iexact HO
    isplitl [H0]; · iexact H0
    isplitl [H1] <;> iassumption
  unfold Φ₀ starts known dealt
  iintro ⟨⟨⟨⟨%K, ⟨#HI, #HR⟩, ⟨Ht, Hbt⟩, Hp⟩, #Hlev, Hcr⟩, Hb⟩, HO, H0, H1, H2⟩
  ihave Hcr := (credit_at_launch (F := F) c) $$ Hcr
  icases Hcr with ⟨HcB, HcR⟩
  iapply (hb K)
  isplitr
  · unfold ctx
    isplitr; · iexact HI
    isplitr; · iexact HR
    iexact Hlev
  unfold begins ops
  isplitr
  · unfold ctx
    isplitr; · iexact HI
    isplitr; · iexact HR
    iexact Hlev
  isplitl [HO]; · iexact HO
  isplitl [H0 H1]
  · isplitl [H0] <;> iassumption
  isplitl [H2]; · iexact H2
  isplitl [Hb]; · iexact Hb
  isplitl [Ht]; · iexact Ht
  isplitl [Hbt]; · iexact Hbt
  isplitl [HcB]; · iexact HcB
  isplitl [HcR] <;> iassumption

set_option maxRecDepth 100000 in
theorem body_obligation (c : Dev nD) : BodyObligation (dats (F := F) m ρ 0 c) (defs₀ (F := F)) 𝒱₀ () Set.univ := fun t => by
  rw [fin_N0 t, bigSep_W0, bigSep_W0]
  dsimp only
  simp only [before0, before1]
  rw [show (dats m ρ 0 c).Φ t0_0.castSucc = Φ₀ m c from rfl, show (dats m ρ 0 c).Φ t0_0.succ = Φ₁ c from rfl]
  unfold Dat.owesAt Pipeline.owesWithin
  rw [show (dats m ρ 0 c).owed t0_0.castSucc = O₀ c from rfl, show (dats m ρ 0 c).owed t0_0.succ = 0 from rfl]
  rw [prog_eq]
  refine BIBase.Entails.trans ?_ ((whole_body m c (st0_0 t0_0) (st0_1 t0_0) (st0_2 t0_0)).trans (wp_mono _ _ _ fun _ => ?_))
  · iintro ⟨HΦ, ⟨%W, -, HW⟩, ⟨%d0, H0⟩, ⟨%d1, H1⟩, ⟨%d2, H2⟩⟩
    isplitl [HΦ]; · iexact HΦ
    isplitl [HW]; · iexists W; iexact HW
    isplitl [H0]; · iexact H0
    isplitl [H1]; · iexact H1
    iexists _; iexact H2
  · iintro ⟨HΦ, ⟨%W, HW⟩, H0, H1, H2⟩
    isplitl [HΦ]; · iexact HΦ
    isplitl [HW]
    · iexists W
      isplitr; · ipureintro; exact fun _ _ => Or.inl trivial
      iexact HW
    isplitl [H0]; · iexact H0
    isplitl [H1]; · iexact H1
    iexact H2

/-! ## The launch -/

theorem ownSemFacts : Pipeline.OwnSemFacts cfg0.spec osem := by decide +kernel

theorem share_eq (c : Dev nD) (w : Fin cfg0.W) : (dats (F := F) m ρ 0 c).share w = fullShare := by unfold Dat.share; split <;> rfl

/-- The launch's share of the protocols' state. -/
def u₀ : UU := (initOf (Pipeline.cells cfgs cellOf_inj) (Pipeline.launchToks cfgs cellOf_inj), initOf theCells theDuties)

/-- What a device's launch hands its body. -/
def begun (c : Dev nD) : sProp 𝕄 := iprop(starts (xAt m) (wAt m) c ∗ levAts L lv ∗ Pipeline.launchCred O₀ c)

theorem begun_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ starts (xAt m) (wAt m) c)
      ⊢ |={Set.univ}=> iprop(begun m c ∗ emp) := by
  iintro ⟨-, Hlev, Hcr, -, HG⟩
  imodintro
  unfold begun
  isplitl
  · isplitl [HG]; · iexact HG
    isplitl [Hlev]; · iexact Hlev
    iexact Hcr
  · iempintro

theorem phi_first (c : Dev nD) :
    iprop(begun m c ∗ Pipeline.prefHeld Pipeline.Prefetch.none c (fun _ => fullShare.right) (fun k => k.elim0) ∗ Pipeline.scopedRest cfg0.spec c)
      ⊢ (dats (F := F) m ρ 0 c).Φ 0 := by
  rw [show (dats m ρ 0 c).Φ 0 = Φ₀ m c from rfl, scoped_eq]
  unfold Φ₀ begun
  iintro ⟨Hs, -, Hr⟩
  isplitl [Hs] <;> iassumption

theorem phi_last (c : Dev nD) :
    (dats (F := F) m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scoped_eq]
  unfold Φ₁
  rw [← sems_eq]
  iintro ⟨⟨H1, H2⟩, Hr⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalAt (c : Dev nD) (w : Fin cfg0.W) : Buf (Elt F) ((cfg0.win w).arr.view.loc (c : Thread nD τ)) := (dats m ρ 0 c).arrAt w cfg0.N

def AtEnd : PUnit × MemSt nD τ sig (Elt F) → Prop := fun r =>
  ∀ c : Dev nD, ∀ w : Fin cfg0.W, r.2.mem ((cfg0.win w).arr.view.loc (c : Thread nD τ)) = finalAt m ρ c w

set_option maxRecDepth 100000 in
/-- From any memory with zero counters every fair execution of the eight devices ends, each device's arrays at the
    contents its transfers computed and every counter at zero. -/
theorem run_arrays : θ_run defs (onTc (τ := τ) (main (F := F))) (s₀ m ρ) (fun r => AtEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := given (xAt m) (wAt m)) (G' := starts (xAt m) (wAt m)) (u₀ := u₀)
    (hu₀ := by
      unfold u₀
      iintro Hu
      ihave H := (ownU_pair _ _) $$ Hu
      icases H with ⟨HP, HX⟩
      imod (fund_cells (xAt m) (wAt m)) $$ HX with HG
      imodintro
      isplitl [HP] <;> iassumption)
    (hglob := all_cells (xAt m) (wAt m))
    (hA := fun _ _ => rfl) (hpf := fun _ k => k.elim0)
    (X := begun m) (Y := fun c => unscopedSems0 c) (Z := fun _ => iprop(emp))
    (hX := begun_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final0 (c : Dev nD) : finalAt (F := F) m ρ c (0 : Fin 3) = m ((c : Thread nD τ).loc main_arg0) := (dats (F := F) m ρ 0 c).arrAt_in (0 : Fin 3) rfl _
theorem final1 (c : Dev nD) : finalAt (F := F) m ρ c (1 : Fin 3) = m ((c : Thread nD τ).loc main_arg1) := (dats (F := F) m ρ 0 c).arrAt_in (1 : Fin 3) rfl _
theorem final2 (c : Dev nD) : finalAt (F := F) m ρ c (2 : Fin 3) = outFull (xAt m) (wAt m) c := by
  refine (read2 (F := F) _).symm.trans ?_
  unfold finalAt
  rw [show cfg0.N = (t0_0 : Fin cfg0.N).val + 1 from by decide, (dats (F := F) m ρ 0 c).arrAt_succ (2 : Fin 3) t0_0]
  rw [flush0_2 t0_0, if_pos rfl]
  exact View.read_write_univ _ _

/-- Every fair execution ends, with the result computed, the operands as they were and every counter at zero. -/
theorem run_main : θ_run defs (onTc (τ := τ) (main (F := F))) (s₀ m ρ) (fun r =>
    (∀ c : Dev nD, r.2.mem ((c : Thread nD τ).loc main_v1) = outFull (xAt m) (wAt m) c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final2 m ρ c), (h.1 c (0 : Fin 3)).trans (final0 m ρ c),
    (h.1 c (1 : Fin 3)).trans (final1 m ρ c)⟩, h.2⟩) (run_arrays m ρ)

end

end Cert.KernelIdeal.Hand

end
-- ==== Proof.Same.lean ====
/-
The two printings of the kernel have the same text: so what one runs the other runs.
-/
module

public import proofs.«01_k».proof.Defs
public import proofs.«01_k».proof.Proof.Gen.Kernel
public import proofs.«01_k».proof.Proof.Gen.KernelIdeal
@[expose] public section
noncomputable section
namespace Cert.Proof
open Idealize.ShloMosaic Idealize.SL.Sem
variable {F : FTy → Type} [FloatOps F]
set_option maxRecDepth 100000 in
set_option maxHeartbeats 0 in
theorem body_same (a0 : Memref Cert.KernelIdeal.sig .tc .vmem Cert.KernelIdeal.S4096x512 .f32) (h0 : a0.IsWhole) (a1 : Memref Cert.KernelIdeal.sig .tc .vmem Cert.KernelIdeal.S512x2048 .f32) (h1 : a1.IsWhole)
    (a2 : Memref Cert.KernelIdeal.sig .tc .vmem Cert.KernelIdeal.S512x2048 .f32) (h2 : a2.IsWhole) :
 Cert.Kernel.cc0_body (F := F)  a0 h0 a1 h1 a2 h2 (Memref.whole Cert.KernelIdeal.cc0_scratch0) (Memref.isWhole_whole _) (Memref.whole Cert.KernelIdeal.cc0_scratch1) (Memref.isWhole_whole _) (Memref.whole Cert.KernelIdeal.cc0_scratch2) (Memref.isWhole_whole _) (Memref.whole Cert.KernelIdeal.cc0_scratch3) (Memref.isWhole_whole _) (Memref.whole Cert.KernelIdeal.cc0_scratch4) (Memref.isWhole_whole _) (Memref.whole Cert.KernelIdeal.cc0_scratch5) (Memref.isWhole_whole _) (Memref.whole Cert.KernelIdeal.cc0_scratch6) (Memref.isWhole_whole _) (Memref.whole Cert.KernelIdeal.cc0_scratch7) (Memref.isWhole_whole _) (Memref.whole Cert.KernelIdeal.cc0_scratch8) (Memref.isWhole_whole _) (Memref.whole Cert.KernelIdeal.cc0_scratch9) (Memref.isWhole_whole _) (Memref.whole Cert.KernelIdeal.cc0_scratch10) (Memref.isWhole_whole _) (Memref.whole Cert.KernelIdeal.cc0_scratch11) (Memref.isWhole_whole _) (Memref.whole Cert.KernelIdeal.cc0_scratch12) (Memref.isWhole_whole _) (Memref.whole Cert.KernelIdeal.cc0_scratch13) (Memref.isWhole_whole _) (Memref.whole Cert.KernelIdeal.cc0_scratch14) (Memref.isWhole_whole _) (Memref.whole Cert.KernelIdeal.cc0_scratch15) (Memref.isWhole_whole _) (Memref.whole Cert.KernelIdeal.cc0_scratch16) (Memref.isWhole_whole _) (Memref.whole Cert.KernelIdeal.cc0_scratch17) (Memref.isWhole_whole _) (Memref.whole Cert.KernelIdeal.cc0_scratch18) (Memref.isWhole_whole _) (Memref.whole Cert.KernelIdeal.cc0_scratch19) (Memref.isWhole_whole _) (Memref.whole Cert.KernelIdeal.cc0_scratch20) (Memref.isWhole_whole _) (Memref.whole Cert.KernelIdeal.cc0_scratch21) (Memref.isWhole_whole _) (Memref.whole Cert.KernelIdeal.cc0_scratch22) (Memref.isWhole_whole _) (Memref.whole Cert.KernelIdeal.cc0_scratch23) (Memref.isWhole_whole _) (Memref.whole Cert.KernelIdeal.cc0_scratch24) (Memref.isWhole_whole _) (Memref.whole Cert.KernelIdeal.cc0_scratch25) (Memref.isWhole_whole _) (Memref.whole Cert.KernelIdeal.cc0_scratch26) (Memref.isWhole_whole _) (Memref.whole Cert.KernelIdeal.cc0_scratch27) (Memref.isWhole_whole _) (Memref.whole Cert.KernelIdeal.cc0_scratch28) (Memref.isWhole_whole _) (Memref.whole Cert.KernelIdeal.cc0_scratch29) (Memref.isWhole_whole _) (Memref.whole Cert.KernelIdeal.cc0_scratch30) (Memref.isWhole_whole _) (Memref.whole Cert.KernelIdeal.cc0_scratch31) (Memref.isWhole_whole _) (Memref.whole Cert.KernelIdeal.cc0_scratch32) (Memref.isWhole_whole _) (Memref.whole Cert.KernelIdeal.cc0_scratch33) (Memref.isWhole_whole _) (Memref.whole Cert.KernelIdeal.cc0_scratch34) (Memref.isWhole_whole _) (Memref.whole Cert.KernelIdeal.cc0_scratch35) (Memref.isWhole_whole _) (Memref.whole Cert.KernelIdeal.cc0_scratch36) (Memref.isWhole_whole _) (Memref.whole Cert.KernelIdeal.cc0_scratch37) (Memref.isWhole_whole _) (Memref.whole Cert.KernelIdeal.cc0_scratch38) (Memref.isWhole_whole _) (Memref.whole Cert.KernelIdeal.cc0_scratch39) (Memref.isWhole_whole _) (Memref.whole Cert.KernelIdeal.cc0_scratch40) (Memref.isWhole_whole _) (Memref.whole Cert.KernelIdeal.cc0_scratch41) (Memref.isWhole_whole _) (Memref.whole Cert.KernelIdeal.cc0_scratch42) (Memref.isWhole_whole _) (Memref.whole Cert.KernelIdeal.cc0_scratch43) (Memref.isWhole_whole _) (Memref.whole Cert.KernelIdeal.cc0_scratch44) (Memref.isWhole_whole _) (Memref.whole Cert.KernelIdeal.cc0_scratch45) (Memref.isWhole_whole _) (Memref.whole Cert.KernelIdeal.cc0_scratch46) (Memref.isWhole_whole _) (Memref.whole Cert.KernelIdeal.cc0_scratch47) (Memref.isWhole_whole _) (Memref.whole Cert.KernelIdeal.cc0_scratch48) (Memref.isWhole_whole _) Cert.KernelIdeal.cc0_scratch49 Cert.KernelIdeal.cc0_scratch50 = Cert.KernelIdeal.cc0_body  a0 h0 a1 h1 a2 h2 (Memref.whole Cert.KernelIdeal.cc0_scratch0) (Memref.isWhole_whole _) (Memref.whole Cert.KernelIdeal.cc0_scratch1) (Memref.isWhole_whole _) (Memref.whole Cert.KernelIdeal.cc0_scratch2) (Memref.isWhole_whole _) (Memref.whole Cert.KernelIdeal.cc0_scratch3) (Memref.isWhole_whole _) (Memref.whole Cert.KernelIdeal.cc0_scratch4) (Memref.isWhole_whole _) (Memref.whole Cert.KernelIdeal.cc0_scratch5) (Memref.isWhole_whole _) (Memref.whole Cert.KernelIdeal.cc0_scratch6) (Memref.isWhole_whole _) (Memref.whole Cert.KernelIdeal.cc0_scratch7) (Memref.isWhole_whole _) (Memref.whole Cert.KernelIdeal.cc0_scratch8) (Memref.isWhole_whole _) (Memref.whole Cert.KernelIdeal.cc0_scratch9) (Memref.isWhole_whole _) (Memref.whole Cert.KernelIdeal.cc0_scratch10) (Memref.isWhole_whole _) (Memref.whole Cert.KernelIdeal.cc0_scratch11) (Memref.isWhole_whole _) (Memref.whole Cert.KernelIdeal.cc0_scratch12) (Memref.isWhole_whole _) (Memref.whole Cert.KernelIdeal.cc0_scratch13) (Memref.isWhole_whole _) (Memref.whole Cert.KernelIdeal.cc0_scratch14) (Memref.isWhole_whole _) (Memref.whole Cert.KernelIdeal.cc0_scratch15) (Memref.isWhole_whole _) (Memref.whole Cert.KernelIdeal.cc0_scratch16) (Memref.isWhole_whole _) (Memref.whole Cert.KernelIdeal.cc0_scratch17) (Memref.isWhole_whole _) (Memref.whole Cert.KernelIdeal.cc0_scratch18) (Memref.isWhole_whole _) (Memref.whole Cert.KernelIdeal.cc0_scratch19) (Memref.isWhole_whole _) (Memref.whole Cert.KernelIdeal.cc0_scratch20) (Memref.isWhole_whole _) (Memref.whole Cert.KernelIdeal.cc0_scratch21) (Memref.isWhole_whole _) (Memref.whole Cert.KernelIdeal.cc0_scratch22) (Memref.isWhole_whole _) (Memref.whole Cert.KernelIdeal.cc0_scratch23) (Memref.isWhole_whole _) (Memref.whole Cert.KernelIdeal.cc0_scratch24) (Memref.isWhole_whole _) (Memref.whole Cert.KernelIdeal.cc0_scratch25) (Memref.isWhole_whole _) (Memref.whole Cert.KernelIdeal.cc0_scratch26) (Memref.isWhole_whole _) (Memref.whole Cert.KernelIdeal.cc0_scratch27) (Memref.isWhole_whole _) (Memref.whole Cert.KernelIdeal.cc0_scratch28) (Memref.isWhole_whole _) (Memref.whole Cert.KernelIdeal.cc0_scratch29) (Memref.isWhole_whole _) (Memref.whole Cert.KernelIdeal.cc0_scratch30) (Memref.isWhole_whole _) (Memref.whole Cert.KernelIdeal.cc0_scratch31) (Memref.isWhole_whole _) (Memref.whole Cert.KernelIdeal.cc0_scratch32) (Memref.isWhole_whole _) (Memref.whole Cert.KernelIdeal.cc0_scratch33) (Memref.isWhole_whole _) (Memref.whole Cert.KernelIdeal.cc0_scratch34) (Memref.isWhole_whole _) (Memref.whole Cert.KernelIdeal.cc0_scratch35) (Memref.isWhole_whole _) (Memref.whole Cert.KernelIdeal.cc0_scratch36) (Memref.isWhole_whole _) (Memref.whole Cert.KernelIdeal.cc0_scratch37) (Memref.isWhole_whole _) (Memref.whole Cert.KernelIdeal.cc0_scratch38) (Memref.isWhole_whole _) (Memref.whole Cert.KernelIdeal.cc0_scratch39) (Memref.isWhole_whole _) (Memref.whole Cert.KernelIdeal.cc0_scratch40) (Memref.isWhole_whole _) (Memref.whole Cert.KernelIdeal.cc0_scratch41) (Memref.isWhole_whole _) (Memref.whole Cert.KernelIdeal.cc0_scratch42) (Memref.isWhole_whole _) (Memref.whole Cert.KernelIdeal.cc0_scratch43) (Memref.isWhole_whole _) (Memref.whole Cert.KernelIdeal.cc0_scratch44) (Memref.isWhole_whole _) (Memref.whole Cert.KernelIdeal.cc0_scratch45) (Memref.isWhole_whole _) (Memref.whole Cert.KernelIdeal.cc0_scratch46) (Memref.isWhole_whole _) (Memref.whole Cert.KernelIdeal.cc0_scratch47) (Memref.isWhole_whole _) (Memref.whole Cert.KernelIdeal.cc0_scratch48) (Memref.isWhole_whole _) Cert.KernelIdeal.cc0_scratch49 Cert.KernelIdeal.cc0_scratch50 := rfl

theorem kernels_same : Cert.Kernel.defs₀ (F := F) = Cert.KernelIdeal.defs₀ (F := F) := by
  unfold Cert.Kernel.defs₀ Cert.KernelIdeal.defs₀
  refine congrArg Defs.onTc (funext fun l => funext fun a => ?_)
  obtain rfl : l = 0 := Subsingleton.elim _ _
  obtain ⟨t, s⟩ := a
  exact body_same _ _ _ _ _ _

theorem defs_same : Cert.Kernel.defs (F := F) = Cert.KernelIdeal.defs (F := F) := congrArg (Pipeline.defs (Cert.KernelIdeal.pcfgs (F := F))) kernels_same
end Cert.Proof
end
-- ==== Proof.Exact.lean ====
/-
What a device writes, at the ideal numbers, entry by entry: a code read back is the clipped rounded value it was made of,
and the result's entry is gelu of two halves, each of four products.
-/
module

public import proofs.«01_k».proof.Proof.Body
public import Idealize.ShloMosaic.PureOps.Ideal
public import Idealize.ShloMosaic.PureOps.Ideal.Laws
public import Idealize.ShloMosaic.Lib.Pipeline.Value
public import Idealize.ShloMosaic.Lib.MatmulPlain
public import Idealize.ShloMosaic.Lib.Layout

@[expose] public section

noncomputable section

namespace Cert.KernelIdeal.Hand

open Cert.KernelIdeal Cert.KernelIdeal.Gen
open Idealize.ShloMosaic Idealize.SL.Sem
open Idealize.ShloMosaic.ValueIdx (ix2)

/-! ## Codes -/

/-- The nearest whole number, ties to even. -/
abbrev whole (y : EReal) : EReal := Ideal.liftRound Ideal.roundHalfEven y

/-- Clipped to the codes. -/
def clip (z : EReal) : EReal := min (max z ((-127 : ℝ) : EReal)) ((127 : ℝ) : EReal)

theorem clip_whole (y : EReal) : ∃ n : ℤ, -127 ≤ n ∧ n ≤ 127 ∧ clip (whole y) = ((n : ℝ) : EReal) := by
  induction y using EReal.rec with
  | bot =>
    refine ⟨-127, le_refl _, by decide, ?_⟩
    show min (max ⊥ ((-127 : ℝ) : EReal)) ((127 : ℝ) : EReal) = _
    rw [max_eq_right bot_le, min_eq_left (EReal.coe_le_coe_iff.2 (by norm_num))]
    norm_num
  | top =>
    refine ⟨127, by decide, le_refl _, ?_⟩
    show min (max ⊤ ((-127 : ℝ) : EReal)) ((127 : ℝ) : EReal) = _
    rw [max_eq_left le_top, min_eq_right le_top]
    norm_num
  | coe r =>
    refine ⟨min (max (Ideal.roundHalfEven r) (-127)) 127, by omega, by omega, ?_⟩
    show min (max (((Ideal.roundHalfEven r : ℤ) : ℝ) : EReal) ((-127 : ℝ) : EReal)) ((127 : ℝ) : EReal) = _
    rw [← (EReal.coe_strictMono.monotone.map_max), ← (EReal.coe_strictMono.monotone.map_min)]
    norm_num

theorem code_of_whole {n : ℤ} (h : -127 ≤ n) (h' : n ≤ 127) : (Ideal.fptosi 8 ((n : ℝ) : EReal)).toInt = n := by
  rw [Ideal.fptosi, Ideal.toIntClamped_coe, BitVec.toInt_ofInt, Int.floor_intCast, Int.ceil_intCast, ite_self]
  rw [Int.bmod_def]
  norm_num
  omega

/-- A clipped whole number is a code exactly. -/
theorem code_kept (y : EReal) : (((Ideal.fptosi 8 (clip (whole y))).toInt : ℝ) : EReal) = clip (whole y) := by
  obtain ⟨n, h, h', e⟩ := clip_whole y
  rw [e, code_of_whole h h']

/-- A number quantised at the scale `s` and restored by `u`. -/
def restore (s u p : EReal) : EReal := clip (whole (p * s)) * u

theorem neg127_word : (((4294967169#32 : BitVec 32).toInt : ℝ) : EReal) = ((-127 : ℝ) : EReal) := by
  rw [show (4294967169#32 : BitVec 32).toInt = -127 from by decide]; norm_num
theorem pos127_word : (((127#32 : BitVec 32).toInt : ℝ) : EReal) = ((127 : ℝ) : EReal) := by
  rw [show (127#32 : BitVec 32).toInt = 127 from by decide]; norm_num

theorem quantV_at {w : Nat} (s : EReal) (p : FVec Ideal (sh2 w) .f32) (j : (sh2 w).Idx) :
    quantV (F := Ideal) s p j = Ideal.fptosi 8 (clip (whole (p j * s))) := by
  show Ideal.fptosi 8 (min (((127#32 : BitVec 32).toInt : ℝ) : EReal) (max (((4294967169#32 : BitVec 32).toInt : ℝ) : EReal) (whole (p j * s)))) = _
  rw [neg127_word, pos127_word, min_comm, max_comm]; rfl

theorem dequantV_quantV {w : Nat} (s u : EReal) (p : FVec Ideal (sh2 w) .f32) (j : (sh2 w).Idx) :
    dequantV (F := Ideal) u (quantV (F := Ideal) s p) j = restore s u (p j) := by
  show (((quantV (F := Ideal) s p j).toInt : ℝ) : EReal) * u = _
  rw [quantV_at, code_kept]; rfl

/-! ## The entry -/

/-- A half: what crossed twice, what crossed once, and the device's own product. -/
def halfE (a b c d : EReal) : EReal :=
  restore (q2 (F := Ideal)) (u2 (F := Ideal)) (restore (q1 (F := Ideal)) (u1 (F := Ideal)) a + b) + restore (q1 (F := Ideal)) (u1 (F := Ideal)) c + d

/-- The tanh form of gelu. -/
def geluE (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

theorem lastV_at {w : Nat} (a b c d : FVec Ideal (sh2 w) .f32) (j : (sh2 w).Idx) :
    lastV (F := Ideal) (midV (F := Ideal) (quantV (F := Ideal) q1 a) b) (quantV (F := Ideal) q1 c) d j = halfE (a j) (b j) (c j) (d j) := by
  show dequantV (F := Ideal) u2 (quantV (F := Ideal) q2 (addf (dequantV (F := Ideal) u1 (quantV (F := Ideal) q1 a)) b)) j
    + dequantV (F := Ideal) u1 (quantV (F := Ideal) q1 c) j + d j = _
  rw [dequantV_quantV, dequantV_quantV]
  show restore _ _ (dequantV (F := Ideal) u1 (quantV (F := Ideal) q1 a) j + b j) + _ + _ = _
  rw [dequantV_quantV]; rfl

theorem outV_at {w : Nat} (a b : FVec Ideal (sh2 w) .bf16) (j : (sh2 w).Idx) : outV (F := Ideal) a b j = geluE ((a j : EReal) + (b j : EReal)) := rfl

section
variable (xv : Dev nD → S4096x512.Idx → Elt Ideal .f32) (wv : Dev nD → S512x2048.Idx → Elt Ideal .f32)

theorem half0_flat (c : Dev nD) (S : Slice) : shapeCast (sh2 S.w) (half0 xv wv c S) (sc13 S.hw)
    = lastV (F := Ideal) (midV (F := Ideal) (quantV (F := Ideal) q1 (prodX xv wv (peer (peer c S.k2) S.k1) S S.k12)) (prodX xv wv (peer c S.k2) S S.k2))
        (quantV (F := Ideal) q1 (prodX xv wv (peer c S.k1) S S.k1)) (prodO xv wv c S) := by
  unfold half0 got2a sent2a got1 sent1 mid3 last3 kept
  simp only [shapeCast_shapeCast]

theorem half1_flat (c : Dev nD) (S : Slice) : shapeCast (sh2 S.w) (half1 xv wv c S) (sc13 S.hw)
    = lastV (F := Ideal) (midV (F := Ideal) (quantV (F := Ideal) q1 (prodX xv wv (peer (peer c S.k2) S.k1) S S.k123)) (prodX xv wv (peer c S.k2) S S.k23))
        (quantV (F := Ideal) q1 (prodX xv wv (peer c S.k1) S S.k13)) (prodX xv wv c S S.k3) := by
  unfold half1 got2b sent2b got1 sent1 mid3 last3 kept
  simp only [shapeCast_shapeCast]

theorem outS_at (c : Dev nD) (S : Slice) (j : (sh2 S.w).Idx) : outS xv wv c S j = geluE
    (halfE (prodX xv wv (peer (peer c S.k2) S.k1) S S.k12 j) (prodX xv wv (peer c S.k2) S S.k2 j) (prodX xv wv (peer c S.k1) S S.k1 j) (prodO xv wv c S j)
    + halfE (prodX xv wv (peer (peer (peer c S.k3) S.k2) S.k1) S S.k123 j) (prodX xv wv (peer (peer c S.k3) S.k2) S S.k23 j)
        (prodX xv wv (peer (peer c S.k3) S.k1) S S.k13 j) (prodX xv wv (peer c S.k3) S S.k3 j)) := by
  unfold outS gotH
  simp only [shapeCast_shapeCast]
  rw [half0_flat, half1_flat, outV_at, lastV_at, lastV_at]

/-! ## Products -/

theorem prodV_at {w : Nat} (hw : Wide w) (x : FVec Ideal S512x512 .f32) (y : FVec Ideal (sh2 w) .f32) (r : Fin 512) (q : Fin w) :
    prodV (F := Ideal) hw x y (ix2 r q) = ∑ κ : Fin 512, (x (ix2 r κ) : EReal) * y (ix2 κ q) := by
  unfold prodV
  rw [shapeCast_self, shapeCast_self]
  refine (Ideal.matmul_plain_apply none x y (constant (sh2 w) .f32 0x00000000#32) r q).trans ?_
  show Ideal.ofBits .f32 0x00000000#32 + _ = _
  rw [Ideal.ofBits_zero_f32, zero_add]

/-- The row that is row `r` of block `b`, and a slice's column. -/
abbrev rowOf (b : Fin 8) (r : Fin 512) : Fin 4096 := ⟨512 * b.val + r.val, by omega⟩
abbrev colIn (S : Slice) (q : Fin S.w) : Fin 2048 := ⟨S.lo + q.val, by have := S.hlo; omega⟩

/-- Device `d`'s part of the product's entry: its 512 columns of `X` against its 512 rows of `W`. -/
def part (X : (⟨2, ![4096, 4096]⟩ : Shape).Idx → EReal) (W : (⟨2, ![4096, 2048]⟩ : Shape).Idx → EReal) (d : Fin 8) (i : Fin 4096) (n : Fin 2048) : EReal :=
  ∑ κ : Fin 512, X (ix2 i (rowOf d κ)) * W (ix2 (rowOf d κ) n)

/-- `x` is cut by columns, `w_mat` by rows. -/
theorem cutX : Layout.Tiles ⟨2, ![4096, 512]⟩ ⟨2, ![4096, 4096]⟩ 1 8 := by decide
theorem cutW : Layout.Tiles ⟨2, ![512, 2048]⟩ ⟨2, ![4096, 2048]⟩ 0 8 := by decide

variable {X : (⟨2, ![4096, 4096]⟩ : Shape).Idx → EReal} {W : (⟨2, ![4096, 2048]⟩ : Shape).Idx → EReal}
  (hx : ∀ c : Dev nD, xv c = Layout.block ⟨2, ![4096, 512]⟩ ⟨2, ![4096, 4096]⟩ 1 8 c X cutX)
  (hw : ∀ c : Dev nD, wv c = Layout.block ⟨2, ![512, 2048]⟩ ⟨2, ![4096, 2048]⟩ 0 8 c W cutW)

include hx in
theorem xv_at (c : Dev nD) (j : S4096x512.Idx) : xv c j = X (ix2 (j 0 : Fin 4096) (rowOf c (j 1))) := by
  rw [hx c, Layout.block_apply]
  refine congrArg X (idx2_ext ?_ ?_)
  · rw [(Layout.idx_cols_val _ _ _).1]
  · rw [(Layout.idx_cols_val _ _ _).2]; show (c : Nat) * 512 + (j 1 : Nat) = 512 * (c : Nat) + (j 1 : Nat); omega

include hw in
theorem wv_at (c : Dev nD) (j : S512x2048.Idx) : wv c j = W (ix2 (rowOf c (j 0)) (j 1 : Fin 2048)) := by
  rw [hw c, Layout.block_apply]
  refine congrArg W (idx2_ext ?_ ?_)
  · rw [(Layout.idx_rows_val _ _ _).1]; show (c : Nat) * 512 + (j 0 : Nat) = 512 * (c : Nat) + (j 0 : Nat); omega
  · rw [(Layout.idx_rows_val _ _ _).2]

include hx hw in
theorem prodAt_at (c : Dev nD) (S : Slice) (off : Fin 2 → Nat) (hoff : ∀ a, off a + S512x512.size a ≤ S4096x512.size a) (b : Fin 8)
    (h0 : off 0 = 512 * b.val) (h1 : off 1 = 0) (r : Fin 512) (q : Fin S.w) :
    prodAt xv wv c S off hoff (ix2 r q) = part X W c (rowOf b r) (colIn S q) := by
  unfold prodAt
  refine (prodV_at S.hw _ _ r q).trans (Finset.sum_congr rfl fun κ _ => ?_)
  rw [xv_at xv hx, wv_at wv hw]
  refine congrArg₂ (· * ·) (congrArg X (idx2_ext ?_ ?_)) (congrArg W (idx2_ext ?_ ?_))
  · show off 0 + 1 * r.val = 512 * b.val + r.val; omega
  · show 512 * (c : Nat) + (off 1 + 1 * κ.val) = 512 * (c : Nat) + κ.val; omega
  · show 512 * (c : Nat) + (0 + 1 * κ.val) = 512 * (c : Nat) + κ.val; omega
  · show S.lo + 1 * q.val = S.lo + q.val; omega

theorem off1_rows : ∀ (d : Dev nD) (k : Fin 8), k0_off1 d (BitVec.ofNat 32 k.val) 0 = 512 * (d ^^^ k : Fin 8).val ∧ k0_off1 d (BitVec.ofNat 32 k.val) 1 = 0 := by
  decide +kernel
theorem off2_rows : ∀ d : Dev nD, k0_off2 d 0 = 512 * d.val ∧ k0_off2 d 1 = 0 := by decide +kernel
theorem peer_xor : ∀ (d : Dev nD) (k : Fin 8), peer d k = (d ^^^ k : Fin 8) := by decide +kernel

include hx hw in
theorem prodX_at (d : Dev nD) (S : Slice) (k b : Fin 8) (h : (d ^^^ k : Fin 8) = b) (r : Fin 512) (q : Fin S.w) :
    prodX xv wv d S k (ix2 r q) = part X W d (rowOf b r) (colIn S q) :=
  prodAt_at xv wv hx hw d S _ _ b (by rw [(off1_rows d k).1, h]) (off1_rows d k).2 r q

include hx hw in
theorem prodO_at (d : Dev nD) (S : Slice) (r : Fin 512) (q : Fin S.w) : prodO xv wv d S (ix2 r q) = part X W d (rowOf d r) (colIn S q) :=
  prodAt_at xv wv hx hw d S _ _ d (off2_rows d).1 (off2_rows d).2 r q

/-! ## The result -/

/-- The result's entry of the devices' parts, `P m` the one of the device whose number is the block's xor `m`. -/
def entryE (P : Fin 8 → EReal) (k1 k2 k3 : Fin 8) : EReal :=
  geluE (halfE (P (k1 ^^^ k2)) (P k2) (P k1) (P 0) + halfE (P (k1 ^^^ k2 ^^^ k3)) (P (k2 ^^^ k3)) (P (k1 ^^^ k3)) (P k3))

theorem slice_masks : ∀ t : Fin 7, (slice t).k12 = (slice t).k1 ^^^ (slice t).k2 ∧ (slice t).k13 = (slice t).k1 ^^^ (slice t).k3
    ∧ (slice t).k23 = (slice t).k2 ^^^ (slice t).k3 ∧ (slice t).k123 = (slice t).k1 ^^^ (slice t).k2 ^^^ (slice t).k3 := by decide

theorem xor2 : ∀ c a b : Fin 8, (c ^^^ b ^^^ a : Fin 8) = c ^^^ (a ^^^ b) := by decide +kernel
theorem xor3 : ∀ c a b k : Fin 8, (c ^^^ k ^^^ b ^^^ a : Fin 8) = c ^^^ (a ^^^ b ^^^ k) := by decide +kernel
theorem xor_back : ∀ c a : Fin 8, (c ^^^ a ^^^ a : Fin 8) = c := by decide +kernel
theorem back2 : ∀ c a b : Fin 8, (c ^^^ b ^^^ a ^^^ (a ^^^ b) : Fin 8) = c := by decide +kernel
theorem back3 : ∀ c a b k : Fin 8, (c ^^^ k ^^^ b ^^^ a ^^^ (a ^^^ b ^^^ k) : Fin 8) = c := by decide +kernel
theorem xor_zero : ∀ c : Fin 8, (c ^^^ 0 : Fin 8) = c := by decide +kernel

include hx hw in
/-- A slice's column of what device `c` writes. -/
theorem outS_entry (c : Dev nD) (t : Fin 7) (r : Fin 512) (q : Fin (slice t).w) : outS xv wv c (slice t) (ix2 r q)
    = entryE (fun m => part X W (c ^^^ m : Fin 8) (rowOf c r) (colIn (slice t) q)) (slice t).k1 (slice t).k2 (slice t).k3 := by
  obtain ⟨h12, h13, h23, h123⟩ := slice_masks t
  rw [outS_at]
  simp only [peer_xor, h12, h13, h23, h123]
  rw [prodX_at xv wv hx hw (c ^^^ (slice t).k2 ^^^ (slice t).k1 : Fin 8) (slice t) _ c (back2 _ _ _),
    prodX_at xv wv hx hw (c ^^^ (slice t).k2 : Fin 8) (slice t) _ c (xor_back _ _),
    prodX_at xv wv hx hw (c ^^^ (slice t).k1 : Fin 8) (slice t) _ c (xor_back _ _),
    prodO_at xv wv hx hw c (slice t),
    prodX_at xv wv hx hw (c ^^^ (slice t).k3 ^^^ (slice t).k2 ^^^ (slice t).k1 : Fin 8) (slice t) _ c (back3 _ _ _ _),
    prodX_at xv wv hx hw (c ^^^ (slice t).k3 ^^^ (slice t).k2 : Fin 8) (slice t) _ c (back2 _ _ _),
    prodX_at xv wv hx hw (c ^^^ (slice t).k3 ^^^ (slice t).k1 : Fin 8) (slice t) _ c (back2 _ _ _),
    prodX_at xv wv hx hw (c ^^^ (slice t).k3 : Fin 8) (slice t) _ c (xor_back _ _)]
  rw [xor3 c (slice t).k1 (slice t).k2 (slice t).k3, xor2 c (slice t).k1 (slice t).k2, xor2 c (slice t).k2 (slice t).k3, xor2 c (slice t).k1 (slice t).k3]
  simp only [entryE, xor_zero]

include hx hw in
/-- What device `c` writes. -/
theorem outFull_entry (c : Dev nD) (i : S512x2048.Idx) : outFull xv wv c i
    = entryE (fun m => part X W (c ^^^ m : Fin 8) (rowOf c (i 0)) (i 1)) (slice (colOf (i 1))).k1 (slice (colOf (i 1))).k2 (slice (colOf (i 1))).k3 := by
  have hb := colOf_bounds (i 1)
  unfold outFull
  have e : local2 (colOf (i 1)) i = ix2 (i 0 : Fin 512) (⟨((i 1 : Nat) - (slice (colOf (i 1))).lo) % (slice (colOf (i 1))).w, Nat.mod_lt _ (slice_wpos _)⟩ : Fin (slice (colOf (i 1))).w) :=
    idx2_ext rfl rfl
  refine (congrArg (outS xv wv c (slice (colOf (i 1)))) e).trans ((outS_entry xv wv hx hw c (colOf (i 1)) (i 0) _).trans ?_)
  have e' : colIn (slice (colOf (i 1))) ⟨((i 1 : Nat) - (slice (colOf (i 1))).lo) % (slice (colOf (i 1))).w, Nat.mod_lt _ (slice_wpos _)⟩ = (i 1 : Fin 2048) := by
    refine Fin.ext ?_
    show (slice (colOf (i 1))).lo + ((i 1 : Nat) - (slice (colOf (i 1))).lo) % (slice (colOf (i 1))).w = (i 1 : Nat)
    rw [Nat.mod_eq_of_lt (by omega)]; omega
  rw [e']

end

end Cert.KernelIdeal.Hand

end
-- ==== Proof.Refer.lean ====
/-
The reference, at the ideal numbers, entry by entry: the same gelu of the same two halves as the kernel's.
-/
module

public import proofs.«01_k».proof.Proof.Gen.ReferenceIdeal.Run
public import proofs.«01_k».proof.Proof.Exact
public import Idealize.ShloMosaic.Lib.Pointwise
public import Idealize.ShloMosaic.Lib.Routing.Words
public import Idealize.ShloMosaic.Lib.StableHlo.Predicate

@[expose] public section

set_option maxRecDepth 16384

noncomputable section

namespace Cert.ReferenceIdeal.Hand

open Cert.ReferenceIdeal Cert.ReferenceIdeal.Gen Cert.ReferenceIdeal.Value
open Idealize.ShloMosaic Idealize.SL.Sem
open Cert.KernelIdeal.Hand (part rowOf colOf slice entryE geluE halfE restore clip whole q1 u1 q2 u2)

variable (V : Valuation τ sig (Elt Ideal))

/-! ## The masks -/

/-- Four words by column. -/
def pick (n : Nat) (a b c d : BitVec 32) : BitVec 32 :=
  if n < 512 then a else if n < 1280 then b else if n < 1920 then c else d

theorem choose (n l : Nat) (hn : n < 2 ^ 31) (hl : l < 2 ^ 31) (a b : BitVec 32) :
    Scalar.select (IntOp.cmpi .slt (BitVec.ofNat 32 n) (BitVec.ofNat 32 l)) a b = if n < l then a else b := by
  have h := StableHlo.Predicate.slt_ofNat_iff n l hn hl
  unfold Scalar.select
  by_cases hnl : n < l
  · rw [if_pos hnl]; exact if_pos (h.2 hnl)
  · rw [if_neg hnl]; exact if_neg fun e => hnl (h.1 e)

theorem choose4 (n : Fin 2048) (a b c d : BitVec 32) :
    Scalar.select (IntOp.cmpi .slt (BitVec.ofNat 32 n.val) 512#32) a (Scalar.select (IntOp.cmpi .slt (BitVec.ofNat 32 n.val) 1280#32) b
      (Scalar.select (IntOp.cmpi .slt (BitVec.ofNat 32 n.val) 1920#32) c d)) = pick n.val a b c d := by
  have hn : n.val < 2 ^ 31 := by omega
  rw [choose n.val 512 hn (by decide), choose n.val 1280 hn (by decide), choose n.val 1920 hn (by decide)]; rfl

theorem mask1_at (d : Fin 8) (i : Fin 4096) (n : Fin 2048) : res_main_v16 V (ix3 d i n) = pick n.val 1#32 3#32 4#32 1#32 := choose4 n _ _ _ _
theorem mask2_at (d : Fin 8) (i : Fin 4096) (n : Fin 2048) : res_main_v25 V (ix3 d i n) = pick n.val 3#32 4#32 1#32 4#32 := choose4 n _ _ _ _
theorem mask3_at (d : Fin 8) (i : Fin 4096) (n : Fin 2048) : res_main_v34 V (ix3 d i n) = pick n.val 4#32 1#32 3#32 3#32 := choose4 n _ _ _ _

theorem pick_masks (n : Fin 2048) : pick n.val 1#32 3#32 4#32 1#32 = BitVec.ofNat 32 (slice (colOf n)).k1.val
    ∧ pick n.val 3#32 4#32 1#32 4#32 = BitVec.ofNat 32 (slice (colOf n)).k2.val
    ∧ pick n.val 4#32 1#32 3#32 3#32 = BitVec.ofNat 32 (slice (colOf n)).k3.val := by
  unfold pick colOf
  by_cases h1 : n.val < 256
  · rw [if_pos h1]; simp only [show n.val < 512 by omega, if_true]; decide
  rw [if_neg h1]
  by_cases h2 : n.val < 512
  · simp only [h2, if_true]; decide
  simp only [h2, if_false]
  by_cases h3 : n.val < 896
  · simp only [h3, show n.val < 1280 by omega, if_true]; decide
  rw [if_neg h3]
  by_cases h4 : n.val < 1280
  · simp only [h4, if_true]; decide
  simp only [h4, if_false]
  by_cases h5 : n.val < 1664
  · simp only [h5, show n.val < 1920 by omega, if_true]; decide
  rw [if_neg h5]
  by_cases h6 : n.val < 1920
  · simp only [h6, if_true]; decide
  simp only [h6, if_false]; decide

/-! ## The products -/

/-- The whole arguments. -/
abbrev xW : (⟨2, ![4096, 4096]⟩ : Shape).Idx → EReal := V (Proc.devRef .tc main_arg0)
abbrev wW : (⟨2, ![4096, 2048]⟩ : Shape).Idx → EReal := V (Proc.devRef .tc main_arg1)

theorem sum_same {K : Nat} {f g : Fin K → EReal} (h : ∀ k, f k = g k) : ∑ k, f k = ∑ k, g k := Finset.sum_congr rfl fun k _ => h k

theorem dot_at (d : Fin 8) (i : Fin 4096) (n : Fin 2048) : res_main_v2 V (ix3 d i n) = part (xW V) (wW V) d i n := by
  unfold part
  pointwise [res_main_v2]
  refine sum_same fun κ => ?_
  have e : (⟨d.val * 512 + κ.val, by omega⟩ : Fin 4096) = rowOf d κ := Fin.ext (by show d.val * 512 + κ.val = 512 * d.val + κ.val; omega)
  rw [← ix2_eq_valueIdx, ← ix2_eq_valueIdx, ← e]

/-- The product the device at the mask made of the row. -/
def byM (mask : IVec S8x4096x2048 32) : FVec Ideal S4096x2048 .f32 :=
  Host.reduceAdd (select (cmpi .eq (res_main_v3 V) (xori (res_main_v6 V) mask)) (res_main_v2 V)
    (broadcastInDim S8x4096x2048 ![] bcast_S_S8x4096x2048 (id (constant (F := Ideal) S_ .f32 0x00000000#32))))
    (constant (F := Ideal) S_ .f32 0x00000000#32) reducesTo_S8x4096x2048_S4096x2048_d0 h_S_

/-- The block a row belongs to. -/
abbrev blockOf (i : Fin 4096) : Fin 8 := ⟨i.val / 512, by omega⟩

theorem xor_word : ∀ a b : Fin 8, BitVec.ofNat 32 a.val ^^^ BitVec.ofNat 32 b.val = BitVec.ofNat 32 (a ^^^ b : Fin 8).val := by decide +kernel
theorem same_word : ∀ a b : Fin 8, BitVec.ofNat 32 a.val = BitVec.ofNat 32 b.val → a = b := by decide +kernel

theorem pickEq (a b : BitVec 32) (y z : EReal) : Scalar.select (IntOp.cmpi .eq a b) y z = if a = b then y else z := by
  have h := StableHlo.Predicate.cmpi_eq_iff (a := a) (b := b)
  unfold Scalar.select
  by_cases e : a = b
  · rw [if_pos e]; exact if_pos (h.2 e)
  · rw [if_neg e]; exact if_neg fun e' => e (h.1 e')

theorem byM_at (mask : IVec S8x4096x2048 32) (m : Fin 8) (i : Fin 4096) (n : Fin 2048)
    (hm : ∀ d : Fin 8, mask (ix3 d i n) = BitVec.ofNat 32 m.val) :
    byM V mask (ix2 i n) = part (xW V) (wW V) (blockOf i ^^^ m : Fin 8) i n := by
  pointwise [byM, res_main_v3, res_main_v6]
  have e0 : id (constant (F := Ideal) S_ FTy.f32 0#32) ix0 = (0 : EReal) := Ideal.ofBits_zero_f32
  have key : ∀ d : Fin 8, Scalar.select (IntOp.cmpi CmpIPredicate.eq (BitVec.ofNat 32 d.val)
      (IntOp.xori (IntOp.divsi ArithUnit.host (BitVec.ofNat 32 i.val) 512#32) (mask (ix3 d i n)))) (res_main_v2 V (ix3 d i n))
        (id (constant (F := Ideal) S_ FTy.f32 0#32) ix0)
      = if d = (blockOf i ^^^ m : Fin 8) then part (xW V) (wW V) d i n else 0 := by
    intro d
    have hd : IntOp.divsi ArithUnit.host (BitVec.ofNat 32 i.val) 512#32 = BitVec.ofNat 32 (blockOf i).val :=
      Routing.divsi_word ArithUnit.host (a := i.val) (b := 512) (by omega) (by decide) (by decide)
    have hx : IntOp.xori (BitVec.ofNat 32 (blockOf i).val) (BitVec.ofNat 32 m.val) = BitVec.ofNat 32 (blockOf i ^^^ m : Fin 8).val := xor_word _ _
    rw [hd, hm d, hx, dot_at, e0, pickEq]
    by_cases h : d = (blockOf i ^^^ m : Fin 8)
    · rw [if_pos h, if_pos (by rw [h])]
    · rw [if_neg h, if_neg fun e => h (same_word _ _ e)]
  refine (sum_same key).trans ?_
  rw [Finset.sum_ite_eq' Finset.univ, if_pos (Finset.mem_univ _)]

/-! ## The entry -/

theorem low_word : Ideal.ofBits .f32 0xC2FE0000#32 = ((-127 : ℝ) : EReal) := by
  simp [Ideal.ofBits, Ideal.ieee, -EReal.coe_mul]; norm_num
theorem high_word : Ideal.ofBits .f32 0x42FE0000#32 = ((127 : ℝ) : EReal) := by
  simp [Ideal.ofBits, Ideal.ieee, -EReal.coe_mul]; norm_num

/-- A tile that crossed. -/
def crossV (s u : BitVec 32) (p : FVec Ideal S4096x2048 .f32) : FVec Ideal S4096x2048 .f32 :=
  mulf (minimumf (maximumf (Host.roundeven (mulf p (broadcastInDim S4096x2048 ![] bcast_S_S4096x2048 (constant S_ .f32 s))))
    (broadcastInDim S4096x2048 ![] bcast_S_S4096x2048 (constant S_ .f32 0xC2FE0000#32)))
    (broadcastInDim S4096x2048 ![] bcast_S_S4096x2048 (constant S_ .f32 0x42FE0000#32)))
    (broadcastInDim S4096x2048 ![] bcast_S_S4096x2048 (constant S_ .f32 u))

theorem crossV_at (s u : BitVec 32) (p : FVec Ideal S4096x2048 .f32) (j : S4096x2048.Idx) :
    crossV s u p j = restore (Ideal.ofBits .f32 s) (Ideal.ofBits .f32 u) (p j) := by
  show min (max (whole (p j * Ideal.ofBits .f32 s)) (Ideal.ofBits .f32 0xC2FE0000#32)) (Ideal.ofBits .f32 0x42FE0000#32) * Ideal.ofBits .f32 u = _
  rw [low_word, high_word]; rfl

/-- A half of the sum. -/
def halfV (a b c d : FVec Ideal S4096x2048 .f32) : FVec Ideal S4096x2048 .f32 :=
  addf (addf (crossV 0x421EC000#32 0x3CCE69A0#32 (addf (crossV 0x4261C71C#32 0x3C912245#32 a) b)) (crossV 0x4261C71C#32 0x3C912245#32 c)) d

theorem halfV_at (a b c d : FVec Ideal S4096x2048 .f32) (j : S4096x2048.Idx) : halfV a b c d j = halfE (a j) (b j) (c j) (d j) := by
  show crossV _ _ (addf (crossV 0x4261C71C#32 0x3C912245#32 a) b) j + crossV _ _ c j + d j = _
  rw [crossV_at, crossV_at]
  show restore _ _ (crossV _ _ a j + b j) + _ + _ = _
  rw [crossV_at]; rfl

abbrev none3 : IVec S8x4096x2048 32 := broadcastInDim S8x4096x2048 ![] bcast_S_S8x4096x2048 (constantI S_ 32 0#32)

theorem sum_halves : res_main_v146 V
    = addf (halfV (byM V (xori (xori (res_main_v16 V) (res_main_v25 V)) none3)) (byM V (xori (res_main_v25 V) none3))
        (byM V (xori (res_main_v16 V) none3)) (byM V none3))
      (halfV (byM V (xori (xori (res_main_v16 V) (res_main_v25 V)) (res_main_v34 V))) (byM V (xori (res_main_v25 V) (res_main_v34 V)))
        (byM V (xori (res_main_v16 V) (res_main_v34 V))) (byM V (res_main_v34 V))) := rfl

theorem sum_at (i : Fin 4096) (n : Fin 2048) (P : Fin 8 → EReal) (hP : P = fun m => part (xW V) (wW V) (blockOf i ^^^ m : Fin 8) i n)
    (k1 k2 k3 : Fin 8) (h1 : (slice (colOf n)).k1 = k1) (h2 : (slice (colOf n)).k2 = k2) (h3 : (slice (colOf n)).k3 = k3) :
    res_main_v146 V (ix2 i n) = halfE (P (k1 ^^^ k2)) (P k2) (P k1) (P 0) + halfE (P (k1 ^^^ k2 ^^^ k3)) (P (k2 ^^^ k3)) (P (k1 ^^^ k3)) (P k3) := by
  obtain ⟨p1, p2, p3⟩ := pick_masks n
  rw [h1] at p1; rw [h2] at p2; rw [h3] at p3
  have e1 := fun d => (mask1_at V d i n).trans p1
  have e2 := fun d => (mask2_at V d i n).trans p2
  have e3 := fun d => (mask3_at V d i n).trans p3
  have e0 : ∀ d : Fin 8, none3 (ix3 d i n) = BitVec.ofNat 32 (0 : Fin 8).val := fun _ => rfl
  have ex : ∀ (u v : IVec S8x4096x2048 32) (a b : Fin 8), (∀ d : Fin 8, u (ix3 d i n) = BitVec.ofNat 32 a.val) →
      (∀ d : Fin 8, v (ix3 d i n) = BitVec.ofNat 32 b.val) → ∀ d : Fin 8, xori u v (ix3 d i n) = BitVec.ofNat 32 (a ^^^ b : Fin 8).val := by
    intro u v a b hu hv d
    show u _ ^^^ v _ = _
    rw [hu, hv, xor_word]
  have z : ∀ a : Fin 8, (a ^^^ 0 : Fin 8) = a := by decide
  rw [sum_halves]
  show halfV _ _ _ _ (ix2 i n) + halfV _ _ _ _ (ix2 i n) = _
  rw [halfV_at, halfV_at, byM_at V _ _ i n (ex _ _ _ _ (ex _ _ _ _ e1 e2) e0), byM_at V _ _ i n (ex _ _ _ _ e2 e0),
    byM_at V _ _ i n (ex _ _ _ _ e1 e0), byM_at V _ _ i n e0, byM_at V _ _ i n (ex _ _ _ _ (ex _ _ _ _ e1 e2) e3),
    byM_at V _ _ i n (ex _ _ _ _ e2 e3), byM_at V _ _ i n (ex _ _ _ _ e1 e3), byM_at V _ _ i n e3, hP, z (k1 ^^^ k2), z k1, z k2]

/-- The result. -/
def outR : FVec Ideal S4096x2048 .f32 :=
  mulf (mulf (broadcastInDim S4096x2048 ![] bcast_S_S4096x2048 (constant S_ .f32 0x3F000000#32)) (res_main_v146 V)) (addf (broadcastInDim S4096x2048 ![] bcast_S_S4096x2048 (constant S_ .f32 0x3F800000#32)) (Host.tanh (mulf (broadcastInDim S4096x2048 ![] bcast_S_S4096x2048 (constant S_ .f32 0x3F4C422A#32)) (addf (res_main_v146 V) (mulf (broadcastInDim S4096x2048 ![] bcast_S_S4096x2048 (constant S_ .f32 0x3D372713#32)) (mulf (mulf (res_main_v146 V) (res_main_v146 V)) (res_main_v146 V)))))))

theorem gelu_form (y : EReal) : Ideal.ofBits .f32 0x3F000000#32 * y * (Ideal.ofBits .f32 0x3F800000#32
    + Ideal.tanh (Ideal.ofBits .f32 0x3F4C422A#32 * (y + Ideal.ofBits .f32 0x3D372713#32 * (y * y * y)))) = geluE y := by
  unfold geluE
  rw [mul_comm (Ideal.ofBits .f32 0x3F000000#32) y, mul_assoc, mul_assoc y y y]

theorem outR_at (i : Fin 4096) (n : Fin 2048) : outR V (ix2 i n)
    = entryE (fun m => part (xW V) (wW V) (blockOf i ^^^ m : Fin 8) i n) (slice (colOf n)).k1 (slice (colOf n)).k2 (slice (colOf n)).k3 := by
  refine (gelu_form (res_main_v146 V (ix2 i n))).trans ?_
  exact congrArg geluE (sum_at V i n _ rfl _ _ _ rfl rfl rfl)

/-- What device `c` writes is block `c` of the reference's result. -/
theorem block_out (xv : Dev Cert.KernelIdeal.nD → Cert.KernelIdeal.S4096x512.Idx → Elt Ideal .f32)
    (wv : Dev Cert.KernelIdeal.nD → Cert.KernelIdeal.S512x2048.Idx → Elt Ideal .f32)
    (hx : ∀ c : Dev Cert.KernelIdeal.nD, xv c = Layout.block ⟨2, ![4096, 512]⟩ ⟨2, ![4096, 4096]⟩ 1 8 c (xW V) Cert.KernelIdeal.Hand.cutX)
    (hw : ∀ c : Dev Cert.KernelIdeal.nD, wv c = Layout.block ⟨2, ![512, 2048]⟩ ⟨2, ![4096, 2048]⟩ 0 8 c (wW V) Cert.KernelIdeal.Hand.cutW) (c : Dev Cert.KernelIdeal.nD) :
    Cert.KernelIdeal.Hand.outFull xv wv c = Layout.block ⟨2, ![512, 2048]⟩ ⟨2, ![4096, 2048]⟩ 0 8 c (outR V) Cert.KernelIdeal.Hand.cutW := by
  funext i
  have hb : blockOf (rowOf c (i 0)) = c := Fin.ext (by
    show (512 * (c : Nat) + (i 0 : Nat)) / 512 = (c : Nat)
    have : (i 0 : Nat) < 512 := (i 0).isLt
    omega)
  rw [Cert.KernelIdeal.Hand.outFull_entry xv wv hx hw c i, Layout.block_apply]
  refine Eq.trans ?_ ((outR_at V (rowOf c (i 0)) (i 1)).symm.trans (congrArg (outR V) (Cert.KernelIdeal.Hand.idx2_ext ?_ ?_)))
  · rw [hb]
  · rw [(Layout.idx_rows_val _ _ _).1]; show 512 * (c : Nat) + (i 0 : Nat) = (c : Nat) * 512 + (i 0 : Nat); omega
  · rw [(Layout.idx_rows_val _ _ _).2]; rfl

end Cert.ReferenceIdeal.Hand

end
-- ==== Proof.lean ====
/-
The claims of `proof/Defs.lean`, from the launches' runs.
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Same
public import proofs.«01_k».proof.Proof.Refer
public import Idealize.ShloMosaic.Adequacy
public import Idealize.ShloMosaic.Init

@[expose] public section

noncomputable section

namespace Cert.Proof

open Idealize.ShloMosaic Idealize.SL.Sem

/-- The kernel over the float formats' bits: the run that `Launch` proves for any float values. -/
theorem frame_kernel : Cert.quiescent_Kernel := by
  intro m ρ _
  have h := (θ_run Cert.KernelIdeal.defs _ _).mono (fun (r : _ × MemSt Cert.KernelIdeal.nD Cert.KernelIdeal.τ Cert.KernelIdeal.sig (Elt Bits)) h =>
    (⟨fun c => (h.1 c).2, h.2⟩ : (∀ c : Dev Cert.KernelIdeal.nD, _ ∧ _) ∧ r.2.sem = fun _ => 0))
    (Cert.KernelIdeal.Hand.run_main (F := Bits) m ρ)
  rw [← defs_same] at h
  exact h

/-- The kernel over the ideal numbers. -/
theorem frame_ideal : Cert.quiescent_KernelIdeal := fun m ρ _ =>
  (θ_run Cert.KernelIdeal.defs _ _).mono (fun _ h => ⟨fun c => (h.1 c).2, h.2⟩) (Cert.KernelIdeal.Hand.run_main (F := Ideal) m ρ)

/-- The reference: it has no semaphore, and no operation writes its arguments. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device's result is its block of the reference's. -/
theorem algebraic : Cert.algebraic_KernelIdeal_ReferenceIdeal := by
  intro m g m' g' _ hagree
  refine ⟨Cert.ReferenceIdeal.Hand.outR (StableHlo.launchContents m' 0), ?_, ?_⟩
  · refine (θ_run Cert.KernelIdeal.defs _ _).mono (fun _ h c => ⟨(h.1 c).1.trans ?_, (h.1 c).2⟩) (Cert.KernelIdeal.Hand.run_main (F := Ideal) m g)
    exact Cert.ReferenceIdeal.Hand.block_out (StableHlo.launchContents m' 0) _ _ (fun d => (hagree d).1) (fun d => (hagree d).2) c
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference, trivial, algebraic⟩

end Cert.Proof

end
